-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2048x512 : Shape := ⟨2, ![2048, 512]⟩
abbrev S4x256x512 : Shape := ⟨3, ![4, 256, 512]⟩
abbrev S4 : Shape := ⟨1, ![4]⟩
abbrev S_ : Shape := ⟨0, ![]⟩
abbrev S256x512 : Shape := ⟨2, ![256, 512]⟩
abbrev S1x256x512 : Shape := ⟨3, ![1, 256, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S2048x512, .bf16⟩
  | .local _ .vmem, ⟨0, _⟩ => ⟨S512x512, .bf16⟩
  | .local _ .vmem, ⟨1, _⟩ => ⟨S2048x512, .bf16⟩
  | .local _ .vmem, ⟨2, _⟩ => ⟨S4x256x512, .bf16⟩
  | .local _ .vmem, ⟨3, _⟩ => ⟨S4x256x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_5 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v14 : BitVec 32 := Scalar.muli v9 c16_i32_4
  let v15 : BitVec 32 := Scalar.addi c0_i32_5 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v16 : BitVec 32 := Scalar.muli v5 c4_i32_6
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v18 : BitVec 32 := Scalar.muli v8 c1_i32_7
  let v19 : BitVec 32 := Scalar.addi v17 v18
  v19.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_8 : BitVec 32 := 0#32
  let v20 : BitVec 1 := Scalar.cmpi .sgt v5 c0_i32_8
  let v21 : BitVec 32 := Scalar.extui v20
  let c0_i32_9 : BitVec 32 := 0#32
  let v22 : BitVec 1 := Scalar.cmpi .ne v21 c0_i32_9
  v22

def k0_dev2 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v181 : BitVec 32 := Scalar.muli v2 c16_i32_117
  let v182 : BitVec 32 := Scalar.addi c0_i32_118 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v180 : BitVec 32 := Scalar.subi v5 c1_i32_115
  let c4_i32_119 : BitVec 32 := 4#32
  let v183 : BitVec 32 := Scalar.muli v180 c4_i32_119
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v185 : BitVec 32 := Scalar.muli v8 c1_i32_120
  let v186 : BitVec 32 := Scalar.addi v184 v185
  v186.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_10 : BitVec 32 := 3#32
  let v23 : BitVec 1 := Scalar.cmpi .slt v5 c3_i32_10
  let v24 : BitVec 32 := Scalar.extui v23
  let c0_i32_11 : BitVec 32 := 0#32
  let v25 : BitVec 1 := Scalar.cmpi .ne v24 c0_i32_11
  v25

def k0_dev3 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v181 : BitVec 32 := Scalar.muli v2 c16_i32_117
  let v182 : BitVec 32 := Scalar.addi c0_i32_118 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v180 : BitVec 32 := Scalar.addi v5 c1_i32_115
  let c4_i32_119 : BitVec 32 := 4#32
  let v183 : BitVec 32 := Scalar.muli v180 c4_i32_119
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v185 : BitVec 32 := Scalar.muli v8 c1_i32_120
  let v186 : BitVec 32 := Scalar.addi v184 v185
  v186.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v33 : Index := Scalar.indexCast v31
  let c0 : Index := 0#32
  ![v33.toNat, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v37 : Index := Scalar.indexCast v5
  let c0_15 : Index := 0#32
  let c0_16 : Index := 0#32
  ![v37.toNat, 0, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_17 : BitVec 32 := 3#32
  let v41 : BitVec 1 := Scalar.cmpi .slt v5 c3_i32_17
  let v42 : BitVec 32 := Scalar.extui v41
  let c0_i32_18 : BitVec 32 := 0#32
  let v43 : BitVec 1 := Scalar.cmpi .ne v42 c0_i32_18
  v43

def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev4 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v181 : BitVec 32 := Scalar.muli v2 c16_i32_116
  let v182 : BitVec 32 := Scalar.addi c0_i32_117 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v180 : BitVec 32 := Scalar.addi v5 c1_i32_115
  let c4_i32_118 : BitVec 32 := 4#32
  let v183 : BitVec 32 := Scalar.muli v180 c4_i32_118
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v185 : BitVec 32 := Scalar.muli v8 c1_i32_119
  let v186 : BitVec 32 := Scalar.addi v184 v185
  v186.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_19 : BitVec 32 := 0#32
  let v44 : BitVec 1 := Scalar.cmpi .sgt v5 c0_i32_19
  let v45 : BitVec 32 := Scalar.extui v44
  let c0_i32_20 : BitVec 32 := 0#32
  let v46 : BitVec 1 := Scalar.cmpi .ne v45 c0_i32_20
  v46

def k0_off5 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off6 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev5 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v181 : BitVec 32 := Scalar.muli v2 c16_i32_116
  let v182 : BitVec 32 := Scalar.addi c0_i32_117 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_115 : BitVec 32 := 1#32
  let v180 : BitVec 32 := Scalar.subi v5 c1_i32_115
  let c4_i32_118 : BitVec 32 := 4#32
  let v183 : BitVec 32 := Scalar.muli v180 c4_i32_118
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v185 : BitVec 32 := Scalar.muli v8 c1_i32_119
  let v186 : BitVec 32 := Scalar.addi v184 v185
  v186.toNat
def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32 : BitVec 32 := 512#32
  let v49 : BitVec 32 := Scalar.muli v5 c512_i32
  let v50 : Index := Scalar.indexCast v49
  let c0_23 : Index := 0#32
  ![v50.toNat, 0]
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  let c0_i32_26 : BitVec 32 := 0#32
  let v54 : BitVec 1 := Scalar.cmpi .sge v52 c0_i32_26
  let v55 : BitVec 32 := Scalar.extui v54
  let c0_i32_27 : BitVec 32 := 0#32
  let v56 : BitVec 1 := Scalar.cmpi .ne v55 c0_i32_27
  v56

def k0_off8 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  ![v52.toNat]
def k0_off9 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  let c0_i32_120 : BitVec 32 := 0#32
  let c0_i32_121 : BitVec 32 := 0#32
  ![v52.toNat, 0, 0]
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_124 : BitVec 32 := 3#32
  let v193 : BitVec 1 := Scalar.cmpi .slt v5 c3_i32_124
  let v194 : BitVec 32 := Scalar.extui v193
  let c0_i32_125 : BitVec 32 := 0#32
  let v195 : BitVec 1 := Scalar.cmpi .ne v194 c0_i32_125
  v195

def k0_off10 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  ![v52.toNat]
def k0_off11 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  let c0_i32_143 : BitVec 32 := 0#32
  let c0_i32_144 : BitVec 32 := 0#32
  ![v52.toNat, 0, 0]
def k0_dev6 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.addi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev7 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off12 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  let v210 : Index := Scalar.indexCast v52
  let c0_134 : Index := 0#32
  let c0_135 : Index := 0#32
  ![v210.toNat, 0, 0]
def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_24 : BitVec 32 := 1#32
  let v52 : BitVec 32 := Scalar.subi v5 c1_i32_24
  let c512_i32_136 : BitVec 32 := 512#32
  let v213 : BitVec 32 := Scalar.muli v52 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  let c3_i32_28 : BitVec 32 := 3#32
  let v57 : BitVec 1 := Scalar.cmpi .sle v53 c3_i32_28
  let v58 : BitVec 32 := Scalar.extui v57
  let c0_i32_29 : BitVec 32 := 0#32
  let v59 : BitVec 1 := Scalar.cmpi .ne v58 c0_i32_29
  v59

def k0_off14 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  ![v53.toNat]
def k0_off15 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  let c0_i32_120 : BitVec 32 := 0#32
  let c0_i32_121 : BitVec 32 := 0#32
  ![v53.toNat, 0, 0]
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_124 : BitVec 32 := 0#32
  let v193 : BitVec 1 := Scalar.cmpi .sgt v5 c0_i32_124
  let v194 : BitVec 32 := Scalar.extui v193
  let c0_i32_125 : BitVec 32 := 0#32
  let v195 : BitVec 1 := Scalar.cmpi .ne v194 c0_i32_125
  v195

def k0_off16 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  ![v53.toNat]
def k0_off17 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  let c0_i32_143 : BitVec 32 := 0#32
  let c0_i32_144 : BitVec 32 := 0#32
  ![v53.toNat, 0, 0]
def k0_dev8 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.subi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev9 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off18 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  let v210 : Index := Scalar.indexCast v53
  let c0_134 : Index := 0#32
  let c0_135 : Index := 0#32
  ![v210.toNat, 0, 0]
def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_25 : BitVec 32 := 1#32
  let v53 : BitVec 32 := Scalar.addi v5 c1_i32_25
  let c512_i32_136 : BitVec 32 := 512#32
  let v213 : BitVec 32 := Scalar.muli v53 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  let c0_i32_32 : BitVec 32 := 0#32
  let v62 : BitVec 1 := Scalar.cmpi .sge v60 c0_i32_32
  let v63 : BitVec 32 := Scalar.extui v62
  let c0_i32_33 : BitVec 32 := 0#32
  let v64 : BitVec 1 := Scalar.cmpi .ne v63 c0_i32_33
  v64

def k0_off20 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  ![v60.toNat]
def k0_off21 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  let c0_i32_120 : BitVec 32 := 0#32
  let c0_i32_121 : BitVec 32 := 0#32
  ![v60.toNat, 0, 0]
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_124 : BitVec 32 := 3#32
  let v193 : BitVec 1 := Scalar.cmpi .slt v5 c3_i32_124
  let v194 : BitVec 32 := Scalar.extui v193
  let c0_i32_125 : BitVec 32 := 0#32
  let v195 : BitVec 1 := Scalar.cmpi .ne v194 c0_i32_125
  v195

def k0_off22 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  ![v60.toNat]
def k0_off23 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  let c0_i32_143 : BitVec 32 := 0#32
  let c0_i32_144 : BitVec 32 := 0#32
  ![v60.toNat, 0, 0]
def k0_dev10 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.addi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev11 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off24 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  let v210 : Index := Scalar.indexCast v60
  let c0_134 : Index := 0#32
  let c0_135 : Index := 0#32
  ![v210.toNat, 0, 0]
def k0_off25 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v60 : BitVec 32 := Scalar.subi v5 c2_i32_30
  let c512_i32_136 : BitVec 32 := 512#32
  let v213 : BitVec 32 := Scalar.muli v60 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  let c3_i32_34 : BitVec 32 := 3#32
  let v65 : BitVec 1 := Scalar.cmpi .sle v61 c3_i32_34
  let v66 : BitVec 32 := Scalar.extui v65
  let c0_i32_35 : BitVec 32 := 0#32
  let v67 : BitVec 1 := Scalar.cmpi .ne v66 c0_i32_35
  v67

def k0_off26 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  ![v61.toNat]
def k0_off27 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  let c0_i32_120 : BitVec 32 := 0#32
  let c0_i32_121 : BitVec 32 := 0#32
  ![v61.toNat, 0, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_124 : BitVec 32 := 0#32
  let v193 : BitVec 1 := Scalar.cmpi .sgt v5 c0_i32_124
  let v194 : BitVec 32 := Scalar.extui v193
  let c0_i32_125 : BitVec 32 := 0#32
  let v195 : BitVec 1 := Scalar.cmpi .ne v194 c0_i32_125
  v195

def k0_off28 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  ![v61.toNat]
def k0_off29 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  let c0_i32_143 : BitVec 32 := 0#32
  let c0_i32_144 : BitVec 32 := 0#32
  ![v61.toNat, 0, 0]
def k0_dev12 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.subi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev13 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off30 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  let v210 : Index := Scalar.indexCast v61
  let c0_134 : Index := 0#32
  let c0_135 : Index := 0#32
  ![v210.toNat, 0, 0]
def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_31 : BitVec 32 := 2#32
  let v61 : BitVec 32 := Scalar.addi v5 c2_i32_31
  let c512_i32_136 : BitVec 32 := 512#32
  let v213 : BitVec 32 := Scalar.muli v61 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  let c0_i32_38 : BitVec 32 := 0#32
  let v70 : BitVec 1 := Scalar.cmpi .sge v68 c0_i32_38
  let v71 : BitVec 32 := Scalar.extui v70
  let c0_i32_39 : BitVec 32 := 0#32
  let v72 : BitVec 1 := Scalar.cmpi .ne v71 c0_i32_39
  v72

def k0_off32 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  ![v68.toNat]
def k0_off33 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  let c0_i32_120 : BitVec 32 := 0#32
  let c0_i32_121 : BitVec 32 := 0#32
  ![v68.toNat, 0, 0]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_124 : BitVec 32 := 3#32
  let v193 : BitVec 1 := Scalar.cmpi .slt v5 c3_i32_124
  let v194 : BitVec 32 := Scalar.extui v193
  let c0_i32_125 : BitVec 32 := 0#32
  let v195 : BitVec 1 := Scalar.cmpi .ne v194 c0_i32_125
  v195

def k0_off34 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  ![v68.toNat]
def k0_off35 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  let c0_i32_143 : BitVec 32 := 0#32
  let c0_i32_144 : BitVec 32 := 0#32
  ![v68.toNat, 0, 0]
def k0_dev14 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.addi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev15 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off36 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  let v210 : Index := Scalar.indexCast v68
  let c0_134 : Index := 0#32
  let c0_135 : Index := 0#32
  ![v210.toNat, 0, 0]
def k0_off37 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v68 : BitVec 32 := Scalar.subi v5 c3_i32_36
  let c512_i32_136 : BitVec 32 := 512#32
  let v213 : BitVec 32 := Scalar.muli v68 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  let c3_i32_40 : BitVec 32 := 3#32
  let v73 : BitVec 1 := Scalar.cmpi .sle v69 c3_i32_40
  let v74 : BitVec 32 := Scalar.extui v73
  let c0_i32_41 : BitVec 32 := 0#32
  let v75 : BitVec 1 := Scalar.cmpi .ne v74 c0_i32_41
  v75

def k0_off38 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  ![v69.toNat]
def k0_off39 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  let c0_i32_120 : BitVec 32 := 0#32
  let c0_i32_121 : BitVec 32 := 0#32
  ![v69.toNat, 0, 0]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_124 : BitVec 32 := 0#32
  let v193 : BitVec 1 := Scalar.cmpi .sgt v5 c0_i32_124
  let v194 : BitVec 32 := Scalar.extui v193
  let c0_i32_125 : BitVec 32 := 0#32
  let v195 : BitVec 1 := Scalar.cmpi .ne v194 c0_i32_125
  v195

def k0_off40 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  ![v69.toNat]
def k0_off41 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  let c0_i32_143 : BitVec 32 := 0#32
  let c0_i32_144 : BitVec 32 := 0#32
  ![v69.toNat, 0, 0]
def k0_dev16 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_139 : BitVec 32 := 16#32
  let v218 : BitVec 32 := Scalar.muli v2 c16_i32_139
  let v219 : BitVec 32 := Scalar.addi c0_i32_140 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_138 : BitVec 32 := 1#32
  let v217 : BitVec 32 := Scalar.subi v5 c1_i32_138
  let c4_i32_141 : BitVec 32 := 4#32
  let v220 : BitVec 32 := Scalar.muli v217 c4_i32_141
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v222 : BitVec 32 := Scalar.muli v8 c1_i32_142
  let v223 : BitVec 32 := Scalar.addi v221 v222
  v223.toNat
def k0_dev17 (d0 : Dev nD) : Nat :=
  let c0_i32_127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_126 : BitVec 32 := 16#32
  let v196 : BitVec 32 := Scalar.muli v9 c16_i32_126
  let v197 : BitVec 32 := Scalar.addi c0_i32_127 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v198 : BitVec 32 := Scalar.muli v5 c4_i32_128
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v200 : BitVec 32 := Scalar.muli v8 c1_i32_129
  let v201 : BitVec 32 := Scalar.addi v199 v200
  v201.toNat
def k0_off42 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  let v210 : Index := Scalar.indexCast v69
  let c0_134 : Index := 0#32
  let c0_135 : Index := 0#32
  ![v210.toNat, 0, 0]
def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_37 : BitVec 32 := 3#32
  let v69 : BitVec 32 := Scalar.addi v5 c3_i32_37
  let c512_i32_136 : BitVec 32 := 512#32
  let v213 : BitVec 32 := Scalar.muli v69 c512_i32_136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v31 : BitVec 32 := Scalar.muli v2 c256_i32
  let v214 : BitVec 32 := Scalar.addi v213 v31
  let v215 : Index := Scalar.indexCast v214
  let c0_137 : Index := 0#32
  ![v215.toNat, 0]
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_44 : BitVec 32 := 0#32
  let v78 : BitVec 1 := Scalar.cmpi .sge v76 c0_i32_44
  let v79 : BitVec 32 := Scalar.extui v78
  let c0_i32_45 : BitVec 32 := 0#32
  let v80 : BitVec 1 := Scalar.cmpi .ne v79 c0_i32_45
  v80

def k0_off44 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  ![v76.toNat]
def k0_off45 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c0_i32_119 : BitVec 32 := 0#32
  let c0_i32_120 : BitVec 32 := 0#32
  ![v76.toNat, 0, 0]
def k0_off46 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let v192 : Index := Scalar.indexCast v76
  let c0_123 : Index := 0#32
  let c0_124 : Index := 0#32
  ![v192.toNat, 0, 0]
def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v76 : BitVec 32 := Scalar.subi v5 c1_i32_42
  let c512_i32_125 : BitVec 32 := 512#32
  let v195 : BitVec 32 := Scalar.muli v76 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v77 : BitVec 32 := Scalar.addi v5 c1_i32_43
  let c3_i32_46 : BitVec 32 := 3#32
  let v81 : BitVec 1 := Scalar.cmpi .sle v77 c3_i32_46
  let v82 : BitVec 32 := Scalar.extui v81
  let c0_i32_47 : BitVec 32 := 0#32
  let v83 : BitVec 1 := Scalar.cmpi .ne v82 c0_i32_47
  v83

def k0_off48 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v77 : BitVec 32 := Scalar.addi v5 c1_i32_43
  ![v77.toNat]
def k0_off49 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v77 : BitVec 32 := Scalar.addi v5 c1_i32_43
  let c0_i32_119 : BitVec 32 := 0#32
  let c0_i32_120 : BitVec 32 := 0#32
  ![v77.toNat, 0, 0]
def k0_off50 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v77 : BitVec 32 := Scalar.addi v5 c1_i32_43
  let v192 : Index := Scalar.indexCast v77
  let c0_123 : Index := 0#32
  let c0_124 : Index := 0#32
  ![v192.toNat, 0, 0]
def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v77 : BitVec 32 := Scalar.addi v5 c1_i32_43
  let c512_i32_125 : BitVec 32 := 512#32
  let v195 : BitVec 32 := Scalar.muli v77 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v84 : BitVec 32 := Scalar.subi v5 c2_i32_48
  let c0_i32_50 : BitVec 32 := 0#32
  let v86 : BitVec 1 := Scalar.cmpi .sge v84 c0_i32_50
  let v87 : BitVec 32 := Scalar.extui v86
  let c0_i32_51 : BitVec 32 := 0#32
  let v88 : BitVec 1 := Scalar.cmpi .ne v87 c0_i32_51
  v88

def k0_off52 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v84 : BitVec 32 := Scalar.subi v5 c2_i32_48
  ![v84.toNat]
def k0_off53 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v84 : BitVec 32 := Scalar.subi v5 c2_i32_48
  let c0_i32_119 : BitVec 32 := 0#32
  let c0_i32_120 : BitVec 32 := 0#32
  ![v84.toNat, 0, 0]
def k0_off54 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v84 : BitVec 32 := Scalar.subi v5 c2_i32_48
  let v192 : Index := Scalar.indexCast v84
  let c0_123 : Index := 0#32
  let c0_124 : Index := 0#32
  ![v192.toNat, 0, 0]
def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_48 : BitVec 32 := 2#32
  let v84 : BitVec 32 := Scalar.subi v5 c2_i32_48
  let c512_i32_125 : BitVec 32 := 512#32
  let v195 : BitVec 32 := Scalar.muli v84 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v85 : BitVec 32 := Scalar.addi v5 c2_i32_49
  let c3_i32_52 : BitVec 32 := 3#32
  let v89 : BitVec 1 := Scalar.cmpi .sle v85 c3_i32_52
  let v90 : BitVec 32 := Scalar.extui v89
  let c0_i32_53 : BitVec 32 := 0#32
  let v91 : BitVec 1 := Scalar.cmpi .ne v90 c0_i32_53
  v91

def k0_off56 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v85 : BitVec 32 := Scalar.addi v5 c2_i32_49
  ![v85.toNat]
def k0_off57 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v85 : BitVec 32 := Scalar.addi v5 c2_i32_49
  let c0_i32_119 : BitVec 32 := 0#32
  let c0_i32_120 : BitVec 32 := 0#32
  ![v85.toNat, 0, 0]
def k0_off58 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v85 : BitVec 32 := Scalar.addi v5 c2_i32_49
  let v192 : Index := Scalar.indexCast v85
  let c0_123 : Index := 0#32
  let c0_124 : Index := 0#32
  ![v192.toNat, 0, 0]
def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v85 : BitVec 32 := Scalar.addi v5 c2_i32_49
  let c512_i32_125 : BitVec 32 := 512#32
  let v195 : BitVec 32 := Scalar.muli v85 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_54 : BitVec 32 := 3#32
  let v92 : BitVec 32 := Scalar.subi v5 c3_i32_54
  let c0_i32_56 : BitVec 32 := 0#32
  let v94 : BitVec 1 := Scalar.cmpi .sge v92 c0_i32_56
  let v95 : BitVec 32 := Scalar.extui v94
  let c0_i32_57 : BitVec 32 := 0#32
  let v96 : BitVec 1 := Scalar.cmpi .ne v95 c0_i32_57
  v96

def k0_off60 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_54 : BitVec 32 := 3#32
  let v92 : BitVec 32 := Scalar.subi v5 c3_i32_54
  ![v92.toNat]
def k0_off61 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_54 : BitVec 32 := 3#32
  let v92 : BitVec 32 := Scalar.subi v5 c3_i32_54
  let c0_i32_119 : BitVec 32 := 0#32
  let c0_i32_120 : BitVec 32 := 0#32
  ![v92.toNat, 0, 0]
def k0_off62 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_54 : BitVec 32 := 3#32
  let v92 : BitVec 32 := Scalar.subi v5 c3_i32_54
  let v192 : Index := Scalar.indexCast v92
  let c0_123 : Index := 0#32
  let c0_124 : Index := 0#32
  ![v192.toNat, 0, 0]
def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_54 : BitVec 32 := 3#32
  let v92 : BitVec 32 := Scalar.subi v5 c3_i32_54
  let c512_i32_125 : BitVec 32 := 512#32
  let v195 : BitVec 32 := Scalar.muli v92 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_55 : BitVec 32 := 3#32
  let v93 : BitVec 32 := Scalar.addi v5 c3_i32_55
  let c3_i32_58 : BitVec 32 := 3#32
  let v97 : BitVec 1 := Scalar.cmpi .sle v93 c3_i32_58
  let v98 : BitVec 32 := Scalar.extui v97
  let c0_i32_59 : BitVec 32 := 0#32
  let v99 : BitVec 1 := Scalar.cmpi .ne v98 c0_i32_59
  v99

def k0_off64 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_55 : BitVec 32 := 3#32
  let v93 : BitVec 32 := Scalar.addi v5 c3_i32_55
  ![v93.toNat]
def k0_off65 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_55 : BitVec 32 := 3#32
  let v93 : BitVec 32 := Scalar.addi v5 c3_i32_55
  let c0_i32_119 : BitVec 32 := 0#32
  let c0_i32_120 : BitVec 32 := 0#32
  ![v93.toNat, 0, 0]
def k0_off66 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_55 : BitVec 32 := 3#32
  let v93 : BitVec 32 := Scalar.addi v5 c3_i32_55
  let v192 : Index := Scalar.indexCast v93
  let c0_123 : Index := 0#32
  let c0_124 : Index := 0#32
  ![v192.toNat, 0, 0]
def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_55 : BitVec 32 := 3#32
  let v93 : BitVec 32 := Scalar.addi v5 c3_i32_55
  let c512_i32_125 : BitVec 32 := 512#32
  let v195 : BitVec 32 := Scalar.muli v93 c512_i32_125
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_14 : BitVec 32 := 256#32
  let v32 : BitVec 32 := Scalar.muli v9 c256_i32_14
  let v196 : BitVec 32 := Scalar.addi v195 v32
  let v197 : Index := Scalar.indexCast v196
  let c0_126 : Index := 0#32
  ![v197.toNat, 0]
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  let c0_i32_62 : BitVec 32 := 0#32
  let v102 : BitVec 1 := Scalar.cmpi .sge v100 c0_i32_62
  let c3_i32_63 : BitVec 32 := 3#32
  let v103 : BitVec 1 := Scalar.cmpi .slt v5 c3_i32_63
  let v104 : BitVec 1 := Scalar.andi v102 v103
  let v105 : BitVec 32 := Scalar.extui v104
  let c0_i32_64 : BitVec 32 := 0#32
  let v106 : BitVec 1 := Scalar.cmpi .ne v105 c0_i32_64
  v106

def k0_off68 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  ![v100.toNat]
def k0_off69 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  let c0_i32_117 : BitVec 32 := 0#32
  let c0_i32_118 : BitVec 32 := 0#32
  ![v100.toNat, 0, 0]
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  let c3_i32_65 : BitVec 32 := 3#32
  let v107 : BitVec 1 := Scalar.cmpi .sle v101 c3_i32_65
  let c0_i32_66 : BitVec 32 := 0#32
  let v108 : BitVec 1 := Scalar.cmpi .sgt v5 c0_i32_66
  let v109 : BitVec 1 := Scalar.andi v107 v108
  let v110 : BitVec 32 := Scalar.extui v109
  let c0_i32_67 : BitVec 32 := 0#32
  let v111 : BitVec 1 := Scalar.cmpi .ne v110 c0_i32_67
  v111

def k0_off70 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  ![v101.toNat]
def k0_off71 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  let c0_i32_117 : BitVec 32 := 0#32
  let c0_i32_118 : BitVec 32 := 0#32
  ![v101.toNat, 0, 0]
def k0_cond27 (d0 : Dev nD) : BitVec 1 :=
  let v_false : BitVec 1 := 0#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  let c0_i32_68 : BitVec 32 := 0#32
  let v112 : BitVec 1 := Scalar.cmpi .sge v100 c0_i32_68
  let v113 : BitVec 1 := Scalar.andi v_false v112
  let v114 : BitVec 32 := Scalar.extui v113
  let c0_i32_69 : BitVec 32 := 0#32
  let v115 : BitVec 1 := Scalar.cmpi .ne v114 c0_i32_69
  v115

def k0_off72 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  ![v100.toNat]
def k0_off73 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v100 : BitVec 32 := Scalar.subi v5 c0_i32_60
  let c0_i32_116 : BitVec 32 := 0#32
  let c0_i32_117 : BitVec 32 := 0#32
  ![v100.toNat, 0, 0]
def k0_cond28 (d0 : Dev nD) : BitVec 1 :=
  let false_71 : BitVec 1 := 0#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  let c3_i32_70 : BitVec 32 := 3#32
  let v116 : BitVec 1 := Scalar.cmpi .sle v101 c3_i32_70
  let v117 : BitVec 1 := Scalar.andi false_71 v116
  let v118 : BitVec 32 := Scalar.extui v117
  let c0_i32_72 : BitVec 32 := 0#32
  let v119 : BitVec 1 := Scalar.cmpi .ne v118 c0_i32_72
  v119

def k0_off74 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  ![v101.toNat]
def k0_off75 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_61 : BitVec 32 := 0#32
  let v101 : BitVec 32 := Scalar.addi v5 c0_i32_61
  let c0_i32_116 : BitVec 32 := 0#32
  let c0_i32_117 : BitVec 32 := 0#32
  ![v101.toNat, 0, 0]
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  let c0_i32_75 : BitVec 32 := 0#32
  let v122 : BitVec 1 := Scalar.cmpi .sge v120 c0_i32_75
  let c3_i32_76 : BitVec 32 := 3#32
  let v123 : BitVec 1 := Scalar.cmpi .slt v5 c3_i32_76
  let v124 : BitVec 1 := Scalar.andi v122 v123
  let v125 : BitVec 32 := Scalar.extui v124
  let c0_i32_77 : BitVec 32 := 0#32
  let v126 : BitVec 1 := Scalar.cmpi .ne v125 c0_i32_77
  v126

def k0_off76 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  ![v120.toNat]
def k0_off77 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  let c0_i32_117 : BitVec 32 := 0#32
  let c0_i32_118 : BitVec 32 := 0#32
  ![v120.toNat, 0, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  let c3_i32_78 : BitVec 32 := 3#32
  let v127 : BitVec 1 := Scalar.cmpi .sle v121 c3_i32_78
  let c0_i32_79 : BitVec 32 := 0#32
  let v128 : BitVec 1 := Scalar.cmpi .sgt v5 c0_i32_79
  let v129 : BitVec 1 := Scalar.andi v127 v128
  let v130 : BitVec 32 := Scalar.extui v129
  let c0_i32_80 : BitVec 32 := 0#32
  let v131 : BitVec 1 := Scalar.cmpi .ne v130 c0_i32_80
  v131

def k0_off78 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  ![v121.toNat]
def k0_off79 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  let c0_i32_117 : BitVec 32 := 0#32
  let c0_i32_118 : BitVec 32 := 0#32
  ![v121.toNat, 0, 0]
def k0_cond31 (d0 : Dev nD) : BitVec 1 :=
  let true_82 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  let c0_i32_81 : BitVec 32 := 0#32
  let v132 : BitVec 1 := Scalar.cmpi .sge v120 c0_i32_81
  let v133 : BitVec 1 := Scalar.andi true_82 v132
  let v134 : BitVec 32 := Scalar.extui v133
  let c0_i32_83 : BitVec 32 := 0#32
  let v135 : BitVec 1 := Scalar.cmpi .ne v134 c0_i32_83
  v135

def k0_off80 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  ![v120.toNat]
def k0_off81 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_73 : BitVec 32 := 1#32
  let v120 : BitVec 32 := Scalar.subi v5 c1_i32_73
  let c0_i32_116 : BitVec 32 := 0#32
  let c0_i32_117 : BitVec 32 := 0#32
  ![v120.toNat, 0, 0]
def k0_cond32 (d0 : Dev nD) : BitVec 1 :=
  let true_85 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  let c3_i32_84 : BitVec 32 := 3#32
  let v136 : BitVec 1 := Scalar.cmpi .sle v121 c3_i32_84
  let v137 : BitVec 1 := Scalar.andi true_85 v136
  let v138 : BitVec 32 := Scalar.extui v137
  let c0_i32_86 : BitVec 32 := 0#32
  let v139 : BitVec 1 := Scalar.cmpi .ne v138 c0_i32_86
  v139

def k0_off82 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  ![v121.toNat]
def k0_off83 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_74 : BitVec 32 := 1#32
  let v121 : BitVec 32 := Scalar.addi v5 c1_i32_74
  let c0_i32_116 : BitVec 32 := 0#32
  let c0_i32_117 : BitVec 32 := 0#32
  ![v121.toNat, 0, 0]
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  let c0_i32_89 : BitVec 32 := 0#32
  let v142 : BitVec 1 := Scalar.cmpi .sge v140 c0_i32_89
  let c3_i32_90 : BitVec 32 := 3#32
  let v143 : BitVec 1 := Scalar.cmpi .slt v5 c3_i32_90
  let v144 : BitVec 1 := Scalar.andi v142 v143
  let v145 : BitVec 32 := Scalar.extui v144
  let c0_i32_91 : BitVec 32 := 0#32
  let v146 : BitVec 1 := Scalar.cmpi .ne v145 c0_i32_91
  v146

def k0_off84 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  ![v140.toNat]
def k0_off85 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  let c0_i32_117 : BitVec 32 := 0#32
  let c0_i32_118 : BitVec 32 := 0#32
  ![v140.toNat, 0, 0]
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  let c3_i32_92 : BitVec 32 := 3#32
  let v147 : BitVec 1 := Scalar.cmpi .sle v141 c3_i32_92
  let c0_i32_93 : BitVec 32 := 0#32
  let v148 : BitVec 1 := Scalar.cmpi .sgt v5 c0_i32_93
  let v149 : BitVec 1 := Scalar.andi v147 v148
  let v150 : BitVec 32 := Scalar.extui v149
  let c0_i32_94 : BitVec 32 := 0#32
  let v151 : BitVec 1 := Scalar.cmpi .ne v150 c0_i32_94
  v151

def k0_off86 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  ![v141.toNat]
def k0_off87 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  let c0_i32_117 : BitVec 32 := 0#32
  let c0_i32_118 : BitVec 32 := 0#32
  ![v141.toNat, 0, 0]
def k0_cond35 (d0 : Dev nD) : BitVec 1 :=
  let true_96 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  let c0_i32_95 : BitVec 32 := 0#32
  let v152 : BitVec 1 := Scalar.cmpi .sge v140 c0_i32_95
  let v153 : BitVec 1 := Scalar.andi true_96 v152
  let v154 : BitVec 32 := Scalar.extui v153
  let c0_i32_97 : BitVec 32 := 0#32
  let v155 : BitVec 1 := Scalar.cmpi .ne v154 c0_i32_97
  v155

def k0_off88 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  ![v140.toNat]
def k0_off89 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_87 : BitVec 32 := 2#32
  let v140 : BitVec 32 := Scalar.subi v5 c2_i32_87
  let c0_i32_116 : BitVec 32 := 0#32
  let c0_i32_117 : BitVec 32 := 0#32
  ![v140.toNat, 0, 0]
def k0_cond36 (d0 : Dev nD) : BitVec 1 :=
  let true_99 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  let c3_i32_98 : BitVec 32 := 3#32
  let v156 : BitVec 1 := Scalar.cmpi .sle v141 c3_i32_98
  let v157 : BitVec 1 := Scalar.andi true_99 v156
  let v158 : BitVec 32 := Scalar.extui v157
  let c0_i32_100 : BitVec 32 := 0#32
  let v159 : BitVec 1 := Scalar.cmpi .ne v158 c0_i32_100
  v159

def k0_off90 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  ![v141.toNat]
def k0_off91 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_88 : BitVec 32 := 2#32
  let v141 : BitVec 32 := Scalar.addi v5 c2_i32_88
  let c0_i32_116 : BitVec 32 := 0#32
  let c0_i32_117 : BitVec 32 := 0#32
  ![v141.toNat, 0, 0]
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  let c0_i32_103 : BitVec 32 := 0#32
  let v162 : BitVec 1 := Scalar.cmpi .sge v160 c0_i32_103
  let c3_i32_104 : BitVec 32 := 3#32
  let v163 : BitVec 1 := Scalar.cmpi .slt v5 c3_i32_104
  let v164 : BitVec 1 := Scalar.andi v162 v163
  let v165 : BitVec 32 := Scalar.extui v164
  let c0_i32_105 : BitVec 32 := 0#32
  let v166 : BitVec 1 := Scalar.cmpi .ne v165 c0_i32_105
  v166

def k0_off92 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  ![v160.toNat]
def k0_off93 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  let c0_i32_117 : BitVec 32 := 0#32
  let c0_i32_118 : BitVec 32 := 0#32
  ![v160.toNat, 0, 0]
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  let c3_i32_106 : BitVec 32 := 3#32
  let v167 : BitVec 1 := Scalar.cmpi .sle v161 c3_i32_106
  let c0_i32_107 : BitVec 32 := 0#32
  let v168 : BitVec 1 := Scalar.cmpi .sgt v5 c0_i32_107
  let v169 : BitVec 1 := Scalar.andi v167 v168
  let v170 : BitVec 32 := Scalar.extui v169
  let c0_i32_108 : BitVec 32 := 0#32
  let v171 : BitVec 1 := Scalar.cmpi .ne v170 c0_i32_108
  v171

def k0_off94 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  ![v161.toNat]
def k0_off95 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  let c0_i32_117 : BitVec 32 := 0#32
  let c0_i32_118 : BitVec 32 := 0#32
  ![v161.toNat, 0, 0]
def k0_cond39 (d0 : Dev nD) : BitVec 1 :=
  let true_110 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  let c0_i32_109 : BitVec 32 := 0#32
  let v172 : BitVec 1 := Scalar.cmpi .sge v160 c0_i32_109
  let v173 : BitVec 1 := Scalar.andi true_110 v172
  let v174 : BitVec 32 := Scalar.extui v173
  let c0_i32_111 : BitVec 32 := 0#32
  let v175 : BitVec 1 := Scalar.cmpi .ne v174 c0_i32_111
  v175

def k0_off96 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  ![v160.toNat]
def k0_off97 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_101 : BitVec 32 := 3#32
  let v160 : BitVec 32 := Scalar.subi v5 c3_i32_101
  let c0_i32_116 : BitVec 32 := 0#32
  let c0_i32_117 : BitVec 32 := 0#32
  ![v160.toNat, 0, 0]
def k0_cond40 (d0 : Dev nD) : BitVec 1 :=
  let true_113 : BitVec 1 := 1#1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  let c3_i32_112 : BitVec 32 := 3#32
  let v176 : BitVec 1 := Scalar.cmpi .sle v161 c3_i32_112
  let v177 : BitVec 1 := Scalar.andi true_113 v176
  let v178 : BitVec 32 := Scalar.extui v177
  let c0_i32_114 : BitVec 32 := 0#32
  let v179 : BitVec 1 := Scalar.cmpi .ne v178 c0_i32_114
  v179

def k0_off98 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  ![v161.toNat]
def k0_off99 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_102 : BitVec 32 := 3#32
  let v161 : BitVec 32 := Scalar.addi v5 c3_i32_102
  let c0_i32_116 : BitVec 32 := 0#32
  let c0_i32_117 : BitVec 32 := 0#32
  ![v161.toNat, 0, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
  The mesh: the three coordinates of a device, its neighbours along x and y, and the printed index words of the kernel
  (branch conditions, offsets, target devices) in closed form. The 32 devices are numbered 16 x + 4 y + z; the kernel
  moves data along y (to the devices one up and one down) and along x (to the peer with the other x). Everything here
  is checked by evaluating both sides on the 32 devices.
-/
module

public import proofs.«01_k».proof.Proof.Gen.KernelIdeal

@[expose] public section

namespace Cert.GatherProof

open Cert.KernelIdeal Cert.KernelIdeal.Gen
open Idealize.ShloMosaic

/-! ## Coordinates and neighbours -/

set_option backward.proofsInPublic true in
/-- The x coordinate. -/
def xx (c : Dev nD) : Fin 2 := ⟨c.val / 16 % 2, Nat.mod_lt _ (by decide)⟩
set_option backward.proofsInPublic true in
/-- The y coordinate. -/
def yy (c : Dev nD) : Fin 4 := ⟨c.val / 4 % 4, Nat.mod_lt _ (by decide)⟩
set_option backward.proofsInPublic true in
/-- The device with the other x. -/
def peer (c : Dev nD) : Dev nD := ⟨(c.val + 16) % 32, Nat.mod_lt _ (by decide)⟩
set_option backward.proofsInPublic true in
/-- The device one up along y, where there is one (the numbering continues around, so this is a bijection). -/
def up (c : Dev nD) : Dev nD := ⟨(c.val + 4) % 32, Nat.mod_lt _ (by decide)⟩
set_option backward.proofsInPublic true in
/-- The device one down along y, where there is one. -/
def down (c : Dev nD) : Dev nD := ⟨(c.val + 28) % 32, Nat.mod_lt _ (by decide)⟩
set_option backward.proofsInPublic true in
/-- The device of the same x and z whose y coordinate is `o`. -/
def atY (c : Dev nD) (o : Fin 4) : Dev nD :=
  ⟨(c.val / 16 * 16 + o.val * 4 + c.val % 4) % 32, Nat.mod_lt _ (by decide)⟩

theorem peer_peer : ∀ c : Dev nD, peer (peer c) = c := by decide
theorem down_up : ∀ c : Dev nD, down (up c) = c := by decide
theorem up_down : ∀ c : Dev nD, up (down c) = c := by decide
theorem yy_peer : ∀ c : Dev nD, yy (peer c) = yy c := by decide
theorem xx_peer : ∀ c : Dev nD, (xx (peer c)).val = 1 - (xx c).val := by decide
theorem atY_self : ∀ c : Dev nD, atY c (yy c) = c := by decide

/-! ## Directions

  `true` is the transfer towards larger y ("right"), `false` the one towards smaller y ("left"). -/

/-- The neighbour a block travelling in direction `r` goes to next; -/
def nb (r : Bool) (c : Dev nD) : Dev nD := if r then up c else down c
/-- the neighbour it comes from. -/
def bk (r : Bool) (c : Dev nD) : Dev nD := if r then down c else up c

theorem bk_nb : ∀ (r : Bool) (c : Dev nD), bk r (nb r c) = c := by decide
theorem nb_bk : ∀ (r : Bool) (c : Dev nD), nb r (bk r c) = c := by decide

/-- There is a device at distance `d` behind `c` in direction `r`: the one whose block reaches `c` after `d` hops. -/
def val (r : Bool) (d : Fin 4) (c : Dev nD) : Bool := if r then decide (d.val ≤ (yy c).val) else decide ((yy c).val + d.val ≤ 3)
/-- There is a next device in direction `r`. -/
def fwd (r : Bool) (c : Dev nD) : Bool := if r then decide ((yy c).val < 3) else decide (0 < (yy c).val)

set_option backward.proofsInPublic true in
/-- The y coordinate of the device at distance `d` behind `c` (where there is one). -/
def org (r : Bool) (d : Fin 4) (c : Dev nD) : Fin 4 :=
  if r then ⟨((yy c).val + 4 - d.val) % 4, Nat.mod_lt _ (by decide)⟩ else ⟨((yy c).val + d.val) % 4, Nat.mod_lt _ (by decide)⟩

/-- The first row of the half block of device y = `o` that a device of coordinate x = `x` is responsible for. -/
def rowOf (o : Fin 4) (x : ℕ) : ℕ := o.val * 512 + x * 256

/-! ## The printed words

  One predicate per kind of statement; the runs of the statements are stated over it. -/

/-- The statement receiving, forwarding and storing a half block that travels along y. -/
def LandForm (r : Bool) (d : Fin 4) (c : Dev nD) (p p' : BitVec 1) (s1 : Fin 1 → ℕ) (m1 : Fin 3 → ℕ) (s2 : Fin 1 → ℕ) (m2 m3 : Fin 3 → ℕ)
    (out : Fin 2 → ℕ) (nF nP : ℕ) : Prop :=
  (p = 1#1 ↔ val r d c = true) ∧ (p = 1#1 →
    (p' = 1#1 ↔ fwd r c = true) ∧ s1 = ![(org r d c).val] ∧ m1 = ![(org r d c).val, 0, 0] ∧ m3 = ![(org r d c).val, 0, 0]
      ∧ out = ![rowOf (org r d c) (xx c).val, 0] ∧ nP = (peer c).val
      ∧ (p' = 1#1 → s2 = ![(org r d c).val] ∧ m2 = ![(org r d c).val, 0, 0] ∧ nF = (nb r c).val))

/-- The statement receiving and storing a half block from the peer. -/
def XLandForm (r : Bool) (d : Fin 4) (c : Dev nD) (p : BitVec 1) (s1 : Fin 1 → ℕ) (m1 m3 : Fin 3 → ℕ) (out : Fin 2 → ℕ) : Prop :=
  (p = 1#1 ↔ val r d c = true) ∧ (p = 1#1 → s1 = ![(org r d c).val] ∧ m1 = ![(org r d c).val, 0, 0] ∧ m3 = ![(org r d c).val, 0, 0]
    ∧ out = ![rowOf (org r d c) (1 - (xx c).val), 0])

/-- The statement waiting for a send to complete: at condition `b`, of slot `o`. -/
def WaitForm (b : Bool) (o : Fin 4) (p : BitVec 1) (s1 : Fin 1 → ℕ) (m1 : Fin 3 → ℕ) : Prop :=
  (p = 1#1 ↔ b = true) ∧ (p = 1#1 → s1 = ![o.val] ∧ m1 = ![o.val, 0, 0])

/-- The statement sending a device's own half block in direction `r`. -/
def StartForm (r : Bool) (c : Dev nD) (p : BitVec 1) (s1 : Fin 1 → ℕ) (m1 : Fin 3 → ℕ) (n : ℕ) : Prop :=
  (p = 1#1 ↔ fwd r c = true) ∧ (p = 1#1 → s1 = ![(yy c).val] ∧ m1 = ![(yy c).val, 0, 0] ∧ n = (nb r c).val)

theorem dev1 : ∀ c, k0_dev1 c = (peer c).val := by decide +kernel
theorem sig_down : ∀ c, (k0_cond1 c = 1#1 ↔ fwd false c = true) ∧ (k0_cond1 c = 1#1 → k0_dev2 c = (down c).val) := by decide +kernel
theorem sig_up : ∀ c, (k0_cond2 c = 1#1 ↔ fwd true c = true) ∧ (k0_cond2 c = 1#1 → k0_dev3 c = (up c).val) := by decide +kernel

theorem own_offs : ∀ c, k0_off1 c = ![(xx c).val * 256, 0] ∧ k0_off2 c = ![(yy c).val, 0, 0] ∧ k0_off7 c = ![(yy c).val * 512, 0] := by
  decide +kernel

theorem start_R : ∀ c, StartForm true c (k0_cond5 c) (k0_off3 c) (k0_off4 c) (k0_dev4 c) := by unfold StartForm; decide +kernel
theorem start_L : ∀ c, StartForm false c (k0_cond6 c) (k0_off5 c) (k0_off6 c) (k0_dev5 c) := by unfold StartForm; decide +kernel

theorem land_R1 : ∀ c, LandForm true 1 c (k0_cond7 c) (k0_cond8 c) (k0_off8 c) (k0_off9 c) (k0_off10 c) (k0_off11 c) (k0_off12 c) (k0_off13 c) (k0_dev6 c) (k0_dev7 c) := by
  unfold LandForm; decide +kernel
theorem land_L1 : ∀ c, LandForm false 1 c (k0_cond9 c) (k0_cond10 c) (k0_off14 c) (k0_off15 c) (k0_off16 c) (k0_off17 c) (k0_off18 c) (k0_off19 c) (k0_dev8 c) (k0_dev9 c) := by
  unfold LandForm; decide +kernel
theorem land_R2 : ∀ c, LandForm true 2 c (k0_cond11 c) (k0_cond12 c) (k0_off20 c) (k0_off21 c) (k0_off22 c) (k0_off23 c) (k0_off24 c) (k0_off25 c) (k0_dev10 c) (k0_dev11 c) := by
  unfold LandForm; decide +kernel
theorem land_L2 : ∀ c, LandForm false 2 c (k0_cond13 c) (k0_cond14 c) (k0_off26 c) (k0_off27 c) (k0_off28 c) (k0_off29 c) (k0_off30 c) (k0_off31 c) (k0_dev12 c) (k0_dev13 c) := by
  unfold LandForm; decide +kernel
theorem land_R3 : ∀ c, LandForm true 3 c (k0_cond15 c) (k0_cond16 c) (k0_off32 c) (k0_off33 c) (k0_off34 c) (k0_off35 c) (k0_off36 c) (k0_off37 c) (k0_dev14 c) (k0_dev15 c) := by
  unfold LandForm; decide +kernel
theorem land_L3 : ∀ c, LandForm false 3 c (k0_cond17 c) (k0_cond18 c) (k0_off38 c) (k0_off39 c) (k0_off40 c) (k0_off41 c) (k0_off42 c) (k0_off43 c) (k0_dev16 c) (k0_dev17 c) := by
  unfold LandForm; decide +kernel

theorem xland_R1 : ∀ c, XLandForm true 1 c (k0_cond19 c) (k0_off44 c) (k0_off45 c) (k0_off46 c) (k0_off47 c) := by unfold XLandForm; decide +kernel
theorem xland_L1 : ∀ c, XLandForm false 1 c (k0_cond20 c) (k0_off48 c) (k0_off49 c) (k0_off50 c) (k0_off51 c) := by unfold XLandForm; decide +kernel
theorem xland_R2 : ∀ c, XLandForm true 2 c (k0_cond21 c) (k0_off52 c) (k0_off53 c) (k0_off54 c) (k0_off55 c) := by unfold XLandForm; decide +kernel
theorem xland_L2 : ∀ c, XLandForm false 2 c (k0_cond22 c) (k0_off56 c) (k0_off57 c) (k0_off58 c) (k0_off59 c) := by unfold XLandForm; decide +kernel
theorem xland_R3 : ∀ c, XLandForm true 3 c (k0_cond23 c) (k0_off60 c) (k0_off61 c) (k0_off62 c) (k0_off63 c) := by unfold XLandForm; decide +kernel
theorem xland_L3 : ∀ c, XLandForm false 3 c (k0_cond24 c) (k0_off64 c) (k0_off65 c) (k0_off66 c) (k0_off67 c) := by unfold XLandForm; decide +kernel

theorem wait_R0 : ∀ c, WaitForm (val true 0 c && fwd true c) (org true 0 c) (k0_cond25 c) (k0_off68 c) (k0_off69 c) := by unfold WaitForm; decide +kernel
theorem wait_L0 : ∀ c, WaitForm (val false 0 c && fwd false c) (org false 0 c) (k0_cond26 c) (k0_off70 c) (k0_off71 c) := by unfold WaitForm; decide +kernel
theorem wait_XR0 : ∀ c, WaitForm false (org true 0 c) (k0_cond27 c) (k0_off72 c) (k0_off73 c) := by unfold WaitForm; decide +kernel
theorem wait_XL0 : ∀ c, WaitForm false (org false 0 c) (k0_cond28 c) (k0_off74 c) (k0_off75 c) := by unfold WaitForm; decide +kernel
theorem wait_R1 : ∀ c, WaitForm (val true 1 c && fwd true c) (org true 1 c) (k0_cond29 c) (k0_off76 c) (k0_off77 c) := by unfold WaitForm; decide +kernel
theorem wait_L1 : ∀ c, WaitForm (val false 1 c && fwd false c) (org false 1 c) (k0_cond30 c) (k0_off78 c) (k0_off79 c) := by unfold WaitForm; decide +kernel
theorem wait_XR1 : ∀ c, WaitForm (val true 1 c) (org true 1 c) (k0_cond31 c) (k0_off80 c) (k0_off81 c) := by unfold WaitForm; decide +kernel
theorem wait_XL1 : ∀ c, WaitForm (val false 1 c) (org false 1 c) (k0_cond32 c) (k0_off82 c) (k0_off83 c) := by unfold WaitForm; decide +kernel
theorem wait_R2 : ∀ c, WaitForm (val true 2 c && fwd true c) (org true 2 c) (k0_cond33 c) (k0_off84 c) (k0_off85 c) := by unfold WaitForm; decide +kernel
theorem wait_L2 : ∀ c, WaitForm (val false 2 c && fwd false c) (org false 2 c) (k0_cond34 c) (k0_off86 c) (k0_off87 c) := by unfold WaitForm; decide +kernel
theorem wait_XR2 : ∀ c, WaitForm (val true 2 c) (org true 2 c) (k0_cond35 c) (k0_off88 c) (k0_off89 c) := by unfold WaitForm; decide +kernel
theorem wait_XL2 : ∀ c, WaitForm (val false 2 c) (org false 2 c) (k0_cond36 c) (k0_off90 c) (k0_off91 c) := by unfold WaitForm; decide +kernel
theorem wait_R3 : ∀ c, WaitForm (val true 3 c && fwd true c) (org true 3 c) (k0_cond37 c) (k0_off92 c) (k0_off93 c) := by unfold WaitForm; decide +kernel
theorem wait_L3 : ∀ c, WaitForm (val false 3 c && fwd false c) (org false 3 c) (k0_cond38 c) (k0_off94 c) (k0_off95 c) := by unfold WaitForm; decide +kernel
theorem wait_XR3 : ∀ c, WaitForm (val true 3 c) (org true 3 c) (k0_cond39 c) (k0_off96 c) (k0_off97 c) := by unfold WaitForm; decide +kernel
theorem wait_XL3 : ∀ c, WaitForm (val false 3 c) (org false 3 c) (k0_cond40 c) (k0_off98 c) (k0_off99 c) := by unfold WaitForm; decide +kernel

/-- The two waits on the barrier semaphore: three units on a device with both neighbours along y, two otherwise. -/
def barWord (c : Dev nD) : BitVec 1 :=
  Scalar.andi (Scalar.cmpi .sgt (Scalar.remsi (Scalar.divsi (Dev.word c) 4#32) 4#32) 0#32)
    (Scalar.cmpi .slt (Scalar.remsi (Scalar.divsi (Dev.word c) 4#32) 4#32) 3#32)
theorem bar_three : ∀ c, Scalar.cmpi .ne (Scalar.extui (barWord c)) (0#32) = 1#1 ↔ (fwd true c && fwd false c) = true := by decide +kernel
theorem bar_two : ∀ c, Scalar.cmpi .ne (Scalar.extui (Scalar.xori (barWord c) 1#1)) (0#32) = 1#1 ↔ (fwd true c && fwd false c) = false := by
  decide +kernel

end Cert.GatherProof
-- ==== Proof.Sched.lean ====
/-
  The protocol. Every device owns two landing buffers of four slots: `yline`, slot `o` for the half block of the device
  at y = `o` of its own line, and `xbuf`, slot `o` for the half block its peer has of that device. A device writes its
  own half block in its own slot of `yline` and sends it both ways along y; each half block it receives it forwards in
  the same direction and sends to its peer. Here: the cells, what the slots hold, the one round of every cell (who
  signals it, for how much, handing over what), the order of the waits, and what a device owes at launch.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (at most three duties a cell) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Conditional resources -/

/-- `R` under the condition `b`, nothing otherwise. -/
def on (b : Bool) (R : sProp 𝕄) : sProp 𝕄 := if b then R else iprop(emp)

omit [FloatOps F] in
theorem on_true (R : sProp 𝕄) : on true R = R := rfl
omit [FloatOps F] in
theorem on_false (R : sProp 𝕄) : on false R = iprop(emp) := rfl
omit [FloatOps F] in
theorem on_sep (b : Bool) (P Q : sProp 𝕄) : on b iprop(P ∗ Q) = iprop(on b P ∗ on b Q) := by
  cases b
  · rw [on_false, on_false, on_false]; exact (BI.equiv_iff.mp ⟨sep_emp.1, sep_emp.2⟩).symm
  · rfl
omit [FloatOps F] in
theorem on_on (a b : Bool) (P : sProp 𝕄) : on a (on b P) = on (a && b) P := by
  cases a <;> rfl
omit [FloatOps F] in
theorem on_mono (b : Bool) {P Q : sProp 𝕄} (h : P ⊢ Q) : on b P ⊢ on b Q := by
  cases b
  · exact Entails.refl _
  · exact h

instance on_storable (b : Bool) (P : sProp 𝕄) [BI.Storable (upEmb : UEmb _ 𝕄) P] : BI.Storable (upEmb : UEmb _ 𝕄) (on b P) := by
  unfold on; split <;> infer_instance

/-! ## Memrefs and cells -/

abbrev aM : Memref sig .tc .vmem S512x512 .bf16 := Memref.whole cc0_stg0_0
abbrev oM : Memref sig .tc .vmem S2048x512 .bf16 := Memref.whole cc0_stg1_0
abbrev yM : Memref sig .tc .vmem S4x256x512 .bf16 := Memref.whole cc0_scratch0
abbrev xM : Memref sig .tc .vmem S4x256x512 .bf16 := Memref.whole cc0_scratch1

theorem slot_inb : ∀ o : Fin 4, ∀ a, (![o.val, 0, 0] : Fin 3 → ℕ) a + S1x256x512.size a ≤ S4x256x512.size a := by decide

/-- The rectangle of slot `o` of a landing buffer. -/
abbrev slotR (o : Fin 4) : Rect S4x256x512 := Rect.unit (s := S4x256x512) ![o.val, 0, 0] S1x256x512.size (slot_inb o)
/-- Slot `o` of `yline`, of `xbuf`. -/
abbrev yS (o : Fin 4) : Memref sig .tc .vmem S256x512 .bf16 :=
  (yM.slice (slotR o) (fun _ => rfl)).squeeze S256x512 squeezes_S1x256x512_S256x512
abbrev xS (o : Fin 4) : Memref sig .tc .vmem S256x512 .bf16 :=
  (xM.slice (slotR o) (fun _ => rfl)).squeeze S256x512 squeezes_S1x256x512_S256x512

/-- The barrier semaphore. -/
abbrev barS : Sem sig := (SemArray.scalar (sig.barrier 0 rfl) : Sems sig S_).sem

/-- The six arrays of transfer semaphores, in order: right send, right receive, left send, left receive, peer send, peer
    receive. -/
def sarr (q : Fin 6) : DmaSems sig S4 :=
  match q with
  | 0 => cc0_scratch2 | 1 => cc0_scratch3 | 2 => cc0_scratch4 | 3 => cc0_scratch5 | 4 => cc0_scratch6 | 5 => cc0_scratch7

set_option backward.proofsInPublic true in
/-- Semaphore `o` of array `q`. -/
def xs (q : Fin 6) (o : Fin 4) : DmaSem sig := ⟨2 + 4 * q.val + o.val, by have := q.isLt; have := o.isLt; show _ < 26; omega⟩
set_option backward.proofsInPublic true in
/-- The array of a transfer semaphore; -/
def sq (i : DmaSem sig) : Fin 6 := ⟨(i.val - 2) / 4 % 6, Nat.mod_lt _ (by decide)⟩
set_option backward.proofsInPublic true in
/-- its slot. -/
def so (i : DmaSem sig) : Fin 4 := ⟨(i.val - 2) % 4, Nat.mod_lt _ (by decide)⟩
theorem sq_xs : ∀ q o, sq (xs q o) = q := by decide
theorem so_xs : ∀ q o, so (xs q o) = o := by decide
theorem xs_own : ∀ q o, (2 : ℕ) ≤ (xs q o).val := by decide

theorem semSlot_inb : ∀ o : Fin 4, ∀ a, (![o.val] : Fin 1 → ℕ) a + S1.size a ≤ S4.size a := by decide
theorem sem_eq : ∀ q o, (((sarr q).slice (Rect.unit (s := S4) ![o.val] S1.size (semSlot_inb o))).squeeze S_ squeezes_S1_S_).sem = xs q o := by
  decide

abbrev barCell (c : Dev nD) : GSem nD τ sig := ((c : Thread nD τ), .reg barS)
abbrev cell (c : Dev nD) (q : Fin 6) (o : Fin 4) : GSem nD τ sig := ((c : Thread nD τ), .dma (xs q o))

/-- The send array of a direction, its receive array. -/
def qs (r : Bool) : Fin 6 := if r then 0 else 2
def qr (r : Bool) : Fin 6 := if r then 1 else 3

/-- The credit of one transfer. -/
abbrev N : ℕ := (yS 0).view.dmaCredit
theorem N_pos : 0 < N := View.dmaCredit_pos _ (by decide)
theorem N_y (o : Fin 4) : (yS o).view.dmaCredit = N := rfl
theorem N_x (o : Fin 4) : (xS o).view.dmaCredit = N := rfl

/-! ## Contents -/

set_option backward.proofsInPublic true in
/-- Device `c`'s argument, as fetched. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- Rows `x * 256 + j` of the arrays `g 0, …, g 3`, one array a slot. -/
def lineOf {α : Type} (x : Fin 2) (g : Fin 4 → S512x512.Idx → α) : S4x256x512.Idx → α := fun i =>
  g (i 0) (Shape.pair ⟨x.val * 256 + (i 1).val, by
    have h := (i 1).isLt; change (i 1).val < 256 at h; have := x.isLt; show _ < 512; omega⟩ (i 2))

/-- What `yline` of device `c` holds in the end: slot `o` the half block of the device of `c`'s line at y = `o`. -/
def line (c : Dev nD) : (cc0_scratch0 : Ref sig .tc).ty.Contents (Elt F) := lineOf (xx c) fun o => xstg m ρ (atY c o)

set_option backward.proofsInPublic true in
/-- The device whose block device `c`'s result takes half block `k` from. -/
def srcDev (c : Dev nD) (k : Fin 8) : Dev nD :=
  if k.val / 2 = (yy c).val then c
  else if k.val % 2 = (xx c).val then atY c ⟨k.val / 2, by have := k.isLt; omega⟩
  else atY (peer c) ⟨k.val / 2, by have := k.isLt; omega⟩

set_option backward.proofsInPublic true in
/-- The half block of the result an index lies in. -/
def halfOf (i : S2048x512.Idx) : Fin 8 := ⟨(i 0).val / 256, by
  have h := (i 0).isLt; change (i 0).val < 2048 at h; omega⟩

set_option backward.proofsInPublic true in
/-- Device `c`'s result. -/
def outAt (c : Dev nD) : (cc0_stg1_0 : Ref sig .tc).ty.Contents (Elt F) := fun i =>
  xstg m ρ (srcDev c (halfOf i)) (Shape.pair ⟨(i 0).val % 512, Nat.mod_lt _ (by decide)⟩ (i 1))

/-- Slot `o` of device `c`'s `yline`, at share `q`, holding `f`; of its `xbuf`. -/
def yPts (c : Dev nD) (o : Fin 4) (q : PosShare TreeShare) (f : (cc0_scratch0 : Ref sig .tc).ty.Contents (Elt F)) : sProp 𝕄 :=
  (yS o).view.loc (c : Thread nD τ) ↦[(yS o).view.set]{q} f
def xPts (c : Dev nD) (o : Fin 4) (f : (cc0_scratch1 : Ref sig .tc).ty.Contents (Elt F)) : sProp 𝕄 :=
  (xS o).view.loc (c : Thread nD τ) ↦[(xS o).view.set]{fullShare} f

instance yPts_storable (c : Dev nD) (o q f) : BI.Storable (upEmb : UEmb _ 𝕄) (yPts (F := F) c o q f) := by unfold yPts; infer_instance
instance xPts_storable (c : Dev nD) (o f) : BI.Storable (upEmb : UEmb _ 𝕄) (xPts (F := F) c o f) := by unfold xPts; infer_instance

/-- The slots at any contents. -/
def yAny (c : Dev nD) (o : Fin 4) : sProp 𝕄 := iprop(∃ f, yPts c o fullShare f)
def xAny (c : Dev nD) (o : Fin 4) : sProp 𝕄 := iprop(∃ f, xPts c o f)
instance yAny_storable (c : Dev nD) (o) : BI.Storable (upEmb : UEmb _ 𝕄) (yAny (F := F) c o) := by unfold yAny; infer_instance
instance xAny_storable (c : Dev nD) (o) : BI.Storable (upEmb : UEmb _ 𝕄) (xAny (F := F) c o) := by unfold xAny; infer_instance

/-- The three shares of a slot: lent to the right transfer, to the left one, to the one to the peer. -/
def shr (r : Bool) : PosShare TreeShare := if r then fullShare.left else fullShare.right.left
abbrev shx : PosShare TreeShare := fullShare.right.right

/-! ## The schedule -/

/-- Cell (q, o) has a transfer on device `c`. -/
def act (q : Fin 6) (o : Fin 4) (c : Dev nD) : Bool :=
  match q with
  | 0 => decide (o.val ≤ (yy c).val ∧ (yy c).val < 3)
  | 1 => decide (o.val < (yy c).val)
  | 2 => decide ((yy c).val ≤ o.val ∧ 0 < (yy c).val)
  | 3 => decide ((yy c).val < o.val)
  | 4 => decide (o ≠ yy c)
  | 5 => decide (o ≠ yy c)

/-- Device `c` sends slot `o` on in direction `r` (where there is a next device). -/
def slotOK (r : Bool) (o : Fin 4) (c : Dev nD) : Bool := if r then decide (o.val ≤ (yy c).val) else decide ((yy c).val ≤ o.val)

/-- The barrier duty of the neighbour in direction `r`; duty 0 is the peer's. -/
def bduty (r : Bool) : Fin 3 := if r then 2 else 1
def barDuties (c : Dev nD) : Finset (Fin 3) :=
  Finset.univ.filter fun d => d = 0 ∨ (d = 1 ∧ fwd false c = true) ∨ (d = 2 ∧ fwd true c = true)

/-- What a barrier signal hands device `c`: the peer's, every slot of the peer's `xbuf` but `c`'s own; -/
def barPayX (c : Dev nD) : sProp 𝕄 := bigSep Finset.univ fun o : Fin 4 => on (decide (o ≠ yy c)) (xAny (peer c) o)
/-- the neighbour's in direction `r`, the slots of its `yline` that `c` will write. -/
def barPayY (r : Bool) (c : Dev nD) : sProp 𝕄 := bigSep Finset.univ fun o : Fin 4 => on (slotOK r o c) (yAny (nb r c) o)
def barPay (c : Dev nD) (d : Fin 3) : sProp 𝕄 :=
  match d with
  | 0 => barPayX c
  | 1 => barPayY false c
  | 2 => barPayY true c

/-- What a transfer hands over: a send the share of the slot it read, a landing the slot filled. -/
def dmaPay (c : Dev nD) (q : Fin 6) (o : Fin 4) : sProp 𝕄 :=
  match q with
  | 0 => yPts c o (shr true) (line m ρ c)
  | 1 => yPts c o fullShare (line m ρ c)
  | 2 => yPts c o (shr false) (line m ρ c)
  | 3 => yPts c o fullShare (line m ρ c)
  | 4 => yPts c o shx (line m ρ c)
  | 5 => xPts c o (line m ρ (peer c))

/-- One round, round 0. -/
def sched : Rounds.Schedule (GSem nD τ sig) (Fin 3) 𝕄 where
  duties g r :=
    if r = 0 ∧ g.1.2 = .tc then
      match g.2 with
      | .reg _ => barDuties g.1.1
      | .dma i => if act (sq i) (so i) g.1.1 then {0} else ∅
    else ∅
  unitless _ := False
  amount g _ _ := match g.2 with | .reg _ => 1 | .dma _ => N
  payload g _ d := match g.2 with | .reg _ => barPay g.1.1 d | .dma i => dmaPay m ρ g.1.1 (sq i) (so i)
  amount_pos g _ _ _ := by
    cases h : g.2
    · exact Nat.one_pos
    · exact N_pos

instance sched_payload_storable (g : GSem nD τ sig) (r : ℕ) (d : Fin 3) :
    BI.Storable (upEmb : UEmb _ 𝕄) ((sched (F := F) m ρ).payload g r d) := by
  show BI.Storable upEmb (match g.2 with | .reg _ => barPay g.1.1 d | .dma i => dmaPay m ρ g.1.1 (sq i) (so i))
  unfold barPay barPayX barPayY dmaPay
  (repeat' split) <;> infer_instance

section Sched
variable (c : Dev nD) (q : Fin 6) (o : Fin 4)

omit [FloatOps F] in
theorem duties_bar : (sched (F := F) m ρ).duties (barCell c) 0 = barDuties c := by dsimp only [sched]; exact if_pos ⟨rfl, rfl⟩
omit [FloatOps F] in
theorem duties_cell : (sched (F := F) m ρ).duties (cell c q o) 0 = if act q o c then {0} else ∅ := by
  dsimp only [sched]; rw [if_pos ⟨rfl, rfl⟩, sq_xs, so_xs]
omit [FloatOps F] in
theorem duties_later (g : GSem nD τ sig) : ∀ r, 1 ≤ r → (sched (F := F) m ρ).duties g r = ∅ :=
  fun r hr => by dsimp only [sched]; rw [if_neg fun h => by omega]
omit [FloatOps F] in
theorem duties_off (h : act q o c = false) : ∀ r, 0 ≤ r → (sched (F := F) m ρ).duties (cell c q o) r = ∅ := fun r _ => by
  rcases Nat.eq_zero_or_pos r with rfl | hr
  · rw [duties_cell, h]; rfl
  · exact duties_later m ρ _ r hr

omit [FloatOps F] in
theorem amount_bar (d : Fin 3) : (sched (F := F) m ρ).amount (barCell c) 0 d = 1 := rfl
omit [FloatOps F] in
theorem amount_cell (d : Fin 3) : (sched (F := F) m ρ).amount (cell c q o) 0 d = N := rfl

theorem card_bar : ∀ c, (barDuties c).card = if fwd true c && fwd false c then 3 else 2 := by decide

omit [FloatOps F] in
theorem expect_bar : (sched (F := F) m ρ).expect (barCell c) 0 = if fwd true c && fwd false c then 3 else 2 := by
  unfold Schedule.expect Schedule.amountOf
  rw [duties_bar, Finset.sum_congr rfl fun d _ => amount_bar m ρ c d, Finset.sum_const, smul_eq_mul, Nat.mul_one, card_bar]
omit [FloatOps F] in
theorem expect_cell (h : act q o c = true) : (sched (F := F) m ρ).expect (cell c q o) 0 = N := by
  unfold Schedule.expect Schedule.amountOf; rw [duties_cell, h, if_pos rfl, Finset.sum_singleton, amount_cell]

omit [FloatOps F] in
theorem payload_bar (d : Fin 3) : (sched (F := F) m ρ).payload (barCell c) 0 d = barPay c d := rfl
omit [FloatOps F] in
theorem payload_cell (d : Fin 3) : (sched (F := F) m ρ).payload (cell c q o) 0 d = dmaPay m ρ c q o := by
  dsimp only [sched]; rw [sq_xs, so_xs]

omit [FloatOps F] in
theorem rest_cell (h : act q o c = true) :
    bigSep ((sched (F := F) m ρ).duties (cell c q o) 0 \ ∅) (fun d => (sched (F := F) m ρ).payload (cell c q o) 0 d) = dmaPay m ρ c q o := by
  rw [Finset.sdiff_empty, duties_cell, h, if_pos rfl, bigSep_singleton, payload_cell]

theorem barDuties_cases : ∀ c, barDuties c = match fwd false c, fwd true c with
    | true, true => {0, 1, 2} | true, false => {0, 1} | false, true => {0, 2} | false, false => {0} := by decide

omit [FloatOps F] in
/-- The rest of the barrier cell's round: what the peer and the neighbours that exist hand over. -/
theorem rest_bar : bigSep ((sched (F := F) m ρ).duties (barCell c) 0 \ ∅) (fun d => (sched (F := F) m ρ).payload (barCell c) 0 d)
    = iprop(barPayX c ∗ on (fwd false c) (barPayY false c) ∗ on (fwd true c) (barPayY true c)) := by
  rw [Finset.sdiff_empty, duties_bar, barDuties_cases]
  have e : ∀ P : sProp 𝕄, iprop(P ∗ emp) = P := fun P => BI.equiv_iff.mp ⟨sep_emp.1, sep_emp.2⟩
  have e' : ∀ P : sProp 𝕄, iprop(emp ∗ P) = P := fun P => BI.equiv_iff.mp ⟨emp_sep.1, emp_sep.2⟩
  cases fwd false c <;> cases fwd true c <;> dsimp only
  · rw [bigSep_singleton, payload_bar, on_false, on_false, e, e]; rfl
  · rw [bigSep_insert (by decide), bigSep_singleton, payload_bar, payload_bar, on_false, on_true, e']; rfl
  · rw [bigSep_insert (by decide), bigSep_singleton, payload_bar, payload_bar, on_false, on_true, e]; rfl
  · rw [bigSep_insert (by decide), bigSep_insert (by decide), bigSep_singleton, payload_bar, payload_bar, payload_bar, on_true, on_true]; rfl

end Sched

/-! ## Levels, and what each device owes -/

def L (g : GSem nD τ sig) : Finset Unit := if g.1.2 = .tc then {()} else ∅

/-- The level of transfer cell (q, o) on a device of coordinate `y`: a landing along y at its distance, a landing from
    the peer above all of those, a send at 0. -/
def lvd (y : Fin 4) (q : Fin 6) (o : Fin 4) : ℕ :=
  match q with
  | 0 => 0 | 1 => 2 + (y.val - o.val) | 2 => 0 | 3 => 2 + (o.val - y.val) | 4 => 0 | 5 => 9

/-- The level of a cell: the barrier 1, the pipeline's own transfers 0. -/
def lv (g : GSem nD τ sig) (_ : Unit) : ℕ :=
  match g.2 with
  | .reg _ => 1
  | .dma i => if i.val < 2 then 0 else lvd (yy g.1.1) (sq i) (so i)

theorem lv_cell (c : Dev nD) (q : Fin 6) (o : Fin 4) : lv (cell c q o) () = lvd (yy c) q o := by
  dsimp only [lv]; rw [if_neg (Nat.not_lt.mpr (xs_own q o)), sq_xs, so_xs]

theorem L_of_ne (g : GSem nD τ sig) (h : g.1.2 ≠ .tc) : L g = ∅ := if_neg h
theorem L_tc (c : Dev nD) (sm : SemLoc sig) : L ((c : Thread nD τ), sm) = {()} := if_pos rfl

/-- A due under a condition. -/
def due (b : Bool) (g : GSem nD τ sig) (n : ℕ) : CellTallies nD τ sig Unit := if b then tallyAt g () n else 0

/-- Every due of `O` is on a TensorCore cell of a level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.due {n : ℕ} {b : Bool} {c : Dev nD} {sm : SemLoc sig} {k : ℕ} (h : b = true → n < lv ((c : Thread nD τ), sm) ()) :
    Above n (due b ((c : Thread nD τ), sm) k) := fun g u hg => by
  cases b
  · exact absurd hg (Nat.lt_irrefl 0)
  · unfold GatherProof.due at hg
    rw [if_pos rfl, tallyAt_apply] at hg
    by_cases e : g = ((c : Thread nD τ), sm) ∧ u = ()
    · rw [e.1]; exact ⟨rfl, h rfl⟩
    · rw [if_neg e] at hg; exact absurd hg (Nat.lt_irrefl 0)

omit [FloatOps F] in
/-- A wait on a cell is safe while every due owed is above the cell. -/
theorem mayWait_of_above (c : Dev nD) (sm : SemLoc sig) (n : ℕ) (hn : lv ((c : Thread nD τ), sm) () ≤ n) (O : CellTallies nD τ sig Unit)
    (h : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

/-- What device `c` owes the peer's and the neighbours' barrier cells; -/
def sigDue (r : Bool) (c : Dev nD) : CellTallies nD τ sig Unit := due (fwd (!r) c) (barCell (bk r c)) 1
/-- the next device in direction `r`, for slot `o`, under condition `b`; -/
def sendDue (r : Bool) (b : Bool) (o : Fin 4) (c : Dev nD) : CellTallies nD τ sig Unit := due (b && fwd r c) (cell (nb r c) (qr r) o) N
/-- the peer. -/
def peerDue (r : Bool) (d : Fin 4) (c : Dev nD) : CellTallies nD τ sig Unit := due (val r d c) (cell (peer c) 5 (org r d c)) N

/-- What is owed before the listed landings along y. -/
def owe (c : Dev nD) : List (Bool × Fin 4) → CellTallies nD τ sig Unit
  | [] => 0
  | (r, d) :: l => (owe c l + peerDue r d c) + sendDue r (val r d c) (org r d c) c

/-- The landings along y in program order. -/
def LL : List (Bool × Fin 4) := [(true, 1), (false, 1), (true, 2), (false, 2), (true, 3), (false, 3)]

/-- What is owed after the barrier; at launch. -/
def O₁ (c : Dev nD) : CellTallies nD τ sig Unit := (owe c LL + sendDue false true (yy c) c) + sendDue true true (yy c) c
def O₀ (c : Dev nD) : CellTallies nD τ sig Unit := ((O₁ c + sigDue false c) + sigDue true c) + due true (barCell (peer c)) 1

theorem lvd_send : ∀ (r : Bool) (d : Fin 4) (c : Dev nD), (val r d c && fwd r c) = true → lvd (yy (nb r c)) (qr r) (org r d c) = 3 + d.val := by decide
theorem lvd_recv : ∀ (r : Bool) (d : Fin 4) (c : Dev nD), val r d c = true → lvd (yy c) (qr r) (org r d c) = 2 + d.val := by decide
theorem org_zero : ∀ (r : Bool) (c : Dev nD), org r 0 c = yy c := by decide
theorem val_zero : ∀ (r : Bool) (c : Dev nD), val r 0 c = true := by decide

theorem above_send (n : ℕ) (r : Bool) (d : Fin 4) (c : Dev nD) (h : n < 3 + d.val) : Above n (sendDue r (val r d c) (org r d c) c) :=
  Above.due fun hb => by rw [lv_cell, lvd_send r d c hb]; exact h
theorem above_peer (n : ℕ) (r : Bool) (d : Fin 4) (c : Dev nD) (h : n < 9) : Above n (peerDue r d c) :=
  Above.due fun hb => by rw [lv_cell]; exact h
/-- While landings at distances at least `n - 2` are outstanding, everything owed is above `n`. -/
theorem above_owe (n : ℕ) (c : Dev nD) (hn : n < 9) (l : List (Bool × Fin 4)) (h : ∀ p ∈ l, n < 3 + p.2.val) : Above n (owe c l) := by
  induction l with
  | nil => exact Above.zero n
  | cons p l ih =>
    obtain ⟨r, d⟩ := p
    exact ((ih fun p hp => h p (List.mem_cons_of_mem _ hp)).add (above_peer n r d c hn)).add
      (above_send n r d c (h (r, d) (List.mem_cons_self ..)))
theorem above_O₁ (n : ℕ) (c : Dev nD) (h : n < 3) : Above n (O₁ c) := by
  have hs : ∀ r, Above n (sendDue r true (yy c) c) := fun r => by
    have := above_send n r 0 c (by omega); rwa [org_zero, val_zero] at this
  exact ((above_owe n c (by omega) LL fun p _ => by omega).add (hs false)).add (hs true)
theorem above_O₀ (c : Dev nD) : Above 0 (O₀ c) := by
  have hs : ∀ r, Above 0 (sigDue r c) := fun r => Above.due fun _ => by dsimp only [lv]; decide
  exact (((above_O₁ 0 c (by decide)).add (hs false)).add (hs true)).add (Above.due fun _ => by dsimp only [lv]; decide)

/-! ## The invariants and marks every device shares -/

set_option backward.proofsInPublic true in
/-- A device's cells, counted: the barrier's, then the transfers' by array and slot. -/
def csem (k : Fin 25) : SemLoc sig :=
  if k.val = 0 then .reg barS else .dma ⟨k.val + 1, by have := k.isLt; show _ < 26; omega⟩
abbrev kcell (ck : Dev nD × Fin 25) : GSem nD τ sig := ((ck.1 : Thread nD τ), csem ck.2)
set_option backward.proofsInPublic true in
def kq (q : Fin 6) (o : Fin 4) : Fin 25 := ⟨1 + 4 * q.val + o.val, by have := q.isLt; have := o.isLt; omega⟩
theorem csem_kq : ∀ q o, csem (kq q o) = .dma (xs q o) := by decide

def records (K : Dev nD × Fin 25 → ℕ) : sProp 𝕄 :=
  iprop((bigSep Finset.univ fun ck : Dev nD × Fin 25 => cellInv ER (sched m ρ) (K ck) (kcell ck))
    ∗ (bigSep Finset.univ fun ck : Dev nD × Fin 25 => reached ER (kcell ck) 0) ∗ levAts L lv)

instance records_persistent (K : Dev nD × Fin 25 → ℕ) : BI.Persistent (records m ρ K) := by unfold records; infer_instance

variable (K : Dev nD × Fin 25 → ℕ)

omit [FloatOps F] in
theorem rec_inv' (ck : Dev nD × Fin 25) : records m ρ K ⊢ cellInv ER (sched m ρ) (K ck) (kcell ck) := by
  have h : (bigSep Finset.univ fun ck : Dev nD × Fin 25 => cellInv ER (sched (F := F) m ρ) (K ck) (kcell ck)) ⊢ cellInv ER (sched m ρ) (K ck) (kcell ck) :=
    bigSep_elim (Finset.mem_univ ck)
  unfold records; iintro ⟨H, -, -⟩; iapply h; iexact H
omit [FloatOps F] in
theorem rec_reached' (ck : Dev nD × Fin 25) : records m ρ K ⊢ reached ER (kcell ck) 0 := by
  have h : (bigSep Finset.univ fun ck : Dev nD × Fin 25 => (reached ER (kcell ck) 0 : sProp 𝕄)) ⊢ reached ER (kcell ck) 0 :=
    bigSep_elim (Finset.mem_univ ck)
  unfold records; iintro ⟨-, H, -⟩; iapply h; iexact H
omit [FloatOps F] in
theorem rec_inv (c : Dev nD) (q : Fin 6) (o : Fin 4) : records m ρ K ⊢ cellInv ER (sched m ρ) (K (c, kq q o)) (cell c q o) := by
  have e : cell c q o = kcell (c, kq q o) := by unfold cell kcell; rw [csem_kq]
  rw [e]; exact rec_inv' m ρ K _
omit [FloatOps F] in
theorem rec_reached (c : Dev nD) (q : Fin 6) (o : Fin 4) : records m ρ K ⊢ reached ER (cell c q o) 0 := by
  have e : cell c q o = kcell (c, kq q o) := by unfold cell kcell; rw [csem_kq]
  rw [e]; exact rec_reached' m ρ K _
omit [FloatOps F] in
theorem rec_bar (c : Dev nD) : records m ρ K ⊢ cellInv ER (sched m ρ) (K (c, 0)) (barCell c) := rec_inv' m ρ K (c, 0)
omit [FloatOps F] in
theorem rec_barReached (c : Dev nD) : records m ρ K ⊢ reached ER (barCell c) 0 := rec_reached' m ρ K (c, 0)
omit [FloatOps F] in
theorem rec_lev : records m ρ K ⊢ levAts L lv := by
  unfold records; iintro ⟨-, -, H⟩; iexact H

end Cert.GatherProof
-- ==== Proof.Slots.lean ====
/-
  Slots and half blocks: which elements a slot of a landing buffer has, what a load of a slot reads, what a transfer into
  a slot leaves there, the split of a landing buffer into its slots and of a slot into its three shares, and the values
  the kernel stores: every one is a half block of the device's result.
-/
module

public import proofs.«01_k».proof.Proof.Sched
public import Idealize.ShloMosaic.Lib.Pipeline.ValueKit.Geometry

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Elements of a slot -/

theorem mem_slotR (o : Fin 4) (i : S4x256x512.Idx) : i ∈ (slotR o).set ↔ i 0 = o := by
  rw [Rect.mem_set_unit]
  have h1 := (i 1).isLt; have h2 := (i 2).isLt
  change (i 1).val < 256 at h1; change (i 2).val < 512 at h2
  constructor
  · intro h
    have h0 := h 0
    change o.val ≤ (i 0).val ∧ (i 0).val < o.val + 1 at h0
    exact Fin.ext (by omega)
  · rintro rfl a
    fin_cases a
    · exact ⟨Nat.le_refl _, Nat.lt_succ_self _⟩
    · exact ⟨Nat.zero_le _, by show (i 1).val < 0 + 256; omega⟩
    · exact ⟨Nat.zero_le _, by show (i 2).val < 0 + 512; omega⟩

theorem yS_set (o : Fin 4) : (yS o).view.set = (slotR o).set := by
  rw [Memref.set_view_squeeze]; exact View.set_slice_whole _ _
theorem xS_set (o : Fin 4) : (xS o).view.set = (slotR o).set := by
  rw [Memref.set_view_squeeze]; exact View.set_slice_whole _ _

theorem slots_disjoint (o o' : Fin 4) (h : o ≠ o') : Disjoint (slotR o).set (slotR o').set :=
  Finset.disjoint_left.mpr fun i hi hi' => h (((mem_slotR o i).mp hi).symm.trans ((mem_slotR o' i).mp hi'))
theorem slots_cover : Finset.univ.biUnion (fun o : Fin 4 => (slotR o).set) = Finset.univ :=
  Finset.eq_univ_iff_forall.mpr fun i => Finset.mem_biUnion.mpr ⟨i 0, Finset.mem_univ _, (mem_slotR _ i).mpr rfl⟩

omit [FloatOps F] in
/-- A landing buffer is its four slots; -/
theorem y_split (c : Dev nD) (f : (cc0_scratch0 : Ref sig .tc).ty.Contents (Elt F)) :
    (((c : Thread nD τ).loc cc0_scratch0) ↦{fullShare} f : sProp 𝕄) = bigSep Finset.univ fun o : Fin 4 => yPts c o fullShare f := by
  refine (Ring.pointsTo_blocks (ℓ := (c : Thread nD τ).loc cc0_scratch0) (fun o : Fin 4 => (slotR o).set) slots_disjoint slots_cover f).trans ?_
  refine bigSep_congr fun o _ => ?_
  unfold yPts; rw [yS_set]
omit [FloatOps F] in
theorem x_split (c : Dev nD) (f : (cc0_scratch1 : Ref sig .tc).ty.Contents (Elt F)) :
    (((c : Thread nD τ).loc cc0_scratch1) ↦{fullShare} f : sProp 𝕄) = bigSep Finset.univ fun o : Fin 4 => xPts c o f := by
  refine (Ring.pointsTo_blocks (ℓ := (c : Thread nD τ).loc cc0_scratch1) (fun o : Fin 4 => (slotR o).set) slots_disjoint slots_cover f).trans ?_
  refine bigSep_congr fun o _ => ?_
  unfold xPts; rw [xS_set]
/-- and four slots at any contents are the buffer at some contents. -/
theorem y_join (c : Dev nD) (f₀ : (cc0_scratch0 : Ref sig .tc).ty.Contents (Elt F)) : (bigSep Finset.univ fun o : Fin 4 => yAny (F := F) c o)
    ⊢ (iprop(∃ f, ((c : Thread nD τ).loc cc0_scratch0) ↦{fullShare} f) : sProp 𝕄) := by
  have h : (bigSep Finset.univ fun o : Fin 4 => yAny (F := F) c o)
      ⊢ bigSep Finset.univ fun o : Fin 4 => (iprop(∃ f, ((c : Thread nD τ).loc cc0_scratch0) ↦[(slotR o).set]{fullShare} f) : sProp 𝕄) :=
    bigSep_mono fun o _ => by unfold yAny yPts; rw [yS_set]; exact BI.Entails.refl _
  exact h.trans (Ring.pointsTo_blocks_join_exists (ℓ := (c : Thread nD τ).loc cc0_scratch0) (q := fullShare) (fun o : Fin 4 => (slotR o).set) slots_disjoint slots_cover f₀)
theorem x_join (c : Dev nD) (f₀ : (cc0_scratch1 : Ref sig .tc).ty.Contents (Elt F)) : (bigSep Finset.univ fun o : Fin 4 => xAny (F := F) c o)
    ⊢ (iprop(∃ f, ((c : Thread nD τ).loc cc0_scratch1) ↦{fullShare} f) : sProp 𝕄) := by
  have h : (bigSep Finset.univ fun o : Fin 4 => xAny (F := F) c o)
      ⊢ bigSep Finset.univ fun o : Fin 4 => (iprop(∃ f, ((c : Thread nD τ).loc cc0_scratch1) ↦[(slotR o).set]{fullShare} f) : sProp 𝕄) :=
    bigSep_mono fun o _ => by unfold xAny xPts; rw [xS_set]; exact BI.Entails.refl _
  exact h.trans (Ring.pointsTo_blocks_join_exists (ℓ := (c : Thread nD τ).loc cc0_scratch1) (q := fullShare) (fun o : Fin 4 => (slotR o).set) slots_disjoint slots_cover f₀)

omit [FloatOps F] in
/-- A slot is its three shares. -/
theorem y_shares (c : Dev nD) (o : Fin 4) (f : (cc0_scratch0 : Ref sig .tc).ty.Contents (Elt F)) :
    (yPts c o fullShare f : sProp 𝕄) ⊣⊢ iprop(yPts c o (shr true) f ∗ yPts c o (shr false) f ∗ yPts c o shx f) := by
  have h (q : PosShare TreeShare) : ((yS o).view.loc (c : Thread nD τ) ↦[(yS o).view.set]{q} f : sProp 𝕄)
      ⊣⊢ iprop(((yS o).view.loc (c : Thread nD τ) ↦[(yS o).view.set]{q.left} f) ∗ ((yS o).view.loc (c : Thread nD τ) ↦[(yS o).view.set]{q.right} f)) :=
    pointsTo_share (PosShare.mem_left_op_right q)
  unfold yPts
  exact ⟨(h fullShare).1.trans (sep_mono_right (h fullShare.right).1), (sep_mono_right (h fullShare.right).2).trans (h fullShare).2⟩

/-! ## Along a line -/

theorem atY_nb : ∀ (r : Bool) (c : Dev nD), fwd r c = true → xx (nb r c) = xx c ∧ ∀ o, atY (nb r c) o = atY c o := by decide
theorem line_nb (r : Bool) (c : Dev nD) (h : fwd r c = true) : line m ρ (nb r c) = line m ρ c := by
  unfold line; rw [(atY_nb r c h).1]; simp only [(atY_nb r c h).2]

/-! ## Transfers into a slot -/

omit [FloatOps F] in
/-- A slot of `yline` written with the same slot of `f` holds `f`; -/
theorem landed_y (c : Dev nD) (o : Fin 4) (f fd : (cc0_scratch0 : Ref sig .tc).ty.Contents (Elt F)) :
    ((yS o).view.loc (c : Thread nD τ) ↦[(yS o).view.set]{fullShare} ((yS o).view.write (Elt F) fd ((yS o).view.read (Elt F) f) Finset.univ) : sProp 𝕄)
      = yPts c o fullShare f := by
  unfold yPts
  refine pointsTo_congr fun i hi => ?_
  obtain ⟨j, -, rfl⟩ := Finset.mem_map.mp hi
  rw [View.write_emb_of_mem _ _ (Finset.mem_univ j), View.read_apply]; rfl
omit [FloatOps F] in
/-- so does a slot of `xbuf`. -/
theorem landed_x (c : Dev nD) (o : Fin 4) (f : (cc0_scratch0 : Ref sig .tc).ty.Contents (Elt F)) (fd : (cc0_scratch1 : Ref sig .tc).ty.Contents (Elt F)) :
    ((xS o).view.loc (c : Thread nD τ) ↦[(xS o).view.set]{fullShare} ((xS o).view.write (Elt F) fd ((yS o).view.read (Elt F) f) Finset.univ) : sProp 𝕄)
      = xPts c o f := by
  unfold xPts
  refine pointsTo_congr fun i hi => ?_
  obtain ⟨j, -, rfl⟩ := Finset.mem_map.mp hi
  rw [View.write_emb_of_mem _ _ (Finset.mem_univ j), View.read_apply]; rfl

/-! ## What loads read -/

/-- A load of slot `o` of `yline`, of `xbuf`. -/
def yRead (o : Fin 4) (f : (cc0_scratch0 : Ref sig .tc).ty.Contents (Elt F)) : Vec F S1x256x512 .bf16 := (yM.access (slotR o)).read (Elt F) f
def xRead (o : Fin 4) (f : (cc0_scratch1 : Ref sig .tc).ty.Contents (Elt F)) : Vec F S1x256x512 .bf16 := (xM.access (slotR o)).read (Elt F) f

theorem y_access_set (o : Fin 4) : (yM.access (slotR o)).set = (yS o).view.set := by rw [yS_set]; exact View.set_slice_whole _ _
theorem x_access_set (o : Fin 4) : (xM.access (slotR o)).set = (xS o).view.set := by rw [xS_set]; exact View.set_slice_whole _ _

/-- Half block `k` of the result, at its own row and column, as an index of the result. -/
def halfIdx (k : Fin 8) (j : S256x512.Idx) : S2048x512.Idx := Shape.pair ⟨256 * k.val + (j 0).val, by
  have h := (j 0).isLt; change (j 0).val < 256 at h; have := k.isLt; show _ < 2048; omega⟩ (j 1)

set_option backward.proofsInPublic true in
/-- The half block of the device at y = `o` of x coordinate `x`. -/
def hk (o : Fin 4) (x : Fin 2) : Fin 8 := ⟨2 * o.val + x.val, by have := o.isLt; have := x.isLt; omega⟩

theorem src_same : ∀ (c : Dev nD) (o : Fin 4), o ≠ yy c → srcDev c (hk o (xx c)) = atY c o := by decide
theorem src_peer : ∀ (c : Dev nD) (o : Fin 4), o ≠ yy c → srcDev c (hk o (xx (peer c))) = atY (peer c) o := by decide
theorem src_own : ∀ (c : Dev nD) (x : Fin 2), srcDev c (hk (yy c) x) = c := by decide

theorem halfOf_halfIdx (k : Fin 8) (j : S256x512.Idx) : halfOf (halfIdx k j) = k := by
  have h := (j 0).isLt; change (j 0).val < 256 at h
  refine Fin.ext ?_
  show (256 * k.val + (j 0).val) / 256 = k.val
  omega

omit [FloatOps F] in
theorem lineOf_read {α : Type} (x : Fin 2) (g : Fin 4 → S512x512.Idx → α) (o : Fin 4) (i : S4x256x512.Idx) (j : S256x512.Idx)
    (h0 : i 0 = o) (h1 : (i 1).val = (j 0).val) (h2 : (i 2).val = (j 1).val) :
    lineOf x g i = g o (Shape.pair ⟨(halfIdx (hk o x) j 0).val % 512, Nat.mod_lt _ (by decide)⟩ (halfIdx (hk o x) j 1)) := by
  unfold lineOf
  have h := (j 0).isLt; change (j 0).val < 256 at h
  have := x.isLt
  subst h0
  refine congrArg _ (funext fun b => Fin.ext ?_)
  fin_cases b
  · show x.val * 256 + (i 1).val = (256 * (2 * (i 0).val + x.val) + (j 0).val) % 512
    omega
  · exact h2

/-- The half block a slot of `yline` is; -/
theorem pay_y (c : Dev nD) (o : Fin 4) (ho : o ≠ yy c) (h : S1x256x512.ShapeCasts S256x512) (j : S256x512.Idx) :
    shapeCast S256x512 (yRead o (line m ρ c)) h j = outAt m ρ c (halfIdx (hk o (xx c)) j) := by
  refine (shapeCast_dropUnit_apply ![256, 512] (yRead o (line m ρ c)) h j).trans ?_
  unfold outAt
  rw [halfOf_halfIdx, src_same c o ho]
  refine lineOf_read (xx c) (fun o => xstg m ρ (atY c o)) o _ j (Fin.ext ?_) ?_ ?_
  · exact (ValueKit.view_emb_slice_whole_unit_val cc0_scratch0 _ _ (slot_inb o) _ 0).trans (Nat.add_zero _)
  · exact (ValueKit.view_emb_slice_whole_unit_val cc0_scratch0 _ _ (slot_inb o) _ 1).trans (Nat.zero_add _)
  · exact (ValueKit.view_emb_slice_whole_unit_val cc0_scratch0 _ _ (slot_inb o) _ 2).trans (Nat.zero_add _)
/-- a slot of `xbuf` is. -/
theorem pay_x (c : Dev nD) (o : Fin 4) (ho : o ≠ yy c) (h : S1x256x512.ShapeCasts S256x512) (j : S256x512.Idx) :
    shapeCast S256x512 (xRead o (line m ρ (peer c))) h j = outAt m ρ c (halfIdx (hk o (xx (peer c))) j) := by
  refine (shapeCast_dropUnit_apply ![256, 512] (xRead o (line m ρ (peer c))) h j).trans ?_
  unfold outAt
  rw [halfOf_halfIdx, src_peer c o ho]
  refine lineOf_read (xx (peer c)) (fun o => xstg m ρ (atY (peer c) o)) o _ j (Fin.ext ?_) ?_ ?_
  · exact (ValueKit.view_emb_slice_whole_unit_val cc0_scratch1 _ _ (slot_inb o) _ 0).trans (Nat.add_zero _)
  · exact (ValueKit.view_emb_slice_whole_unit_val cc0_scratch1 _ _ (slot_inb o) _ 1).trans (Nat.zero_add _)
  · exact (ValueKit.view_emb_slice_whole_unit_val cc0_scratch1 _ _ (slot_inb o) _ 2).trans (Nat.zero_add _)

/-! ## The device's own blocks -/

theorem ownR_inb : ∀ x : Fin 2, ∀ a, (![x.val * 256, 0] : Fin 2 → ℕ) a + S256x512.size a ≤ S512x512.size a := by decide
theorem ownO_inb : ∀ y : Fin 4, ∀ a, (![y.val * 512, 0] : Fin 2 → ℕ) a + S512x512.size a ≤ S2048x512.size a := by decide
abbrev ownR (x : Fin 2) : Rect S512x512 := Rect.unit (s := S512x512) ![x.val * 256, 0] S256x512.size (ownR_inb x)
abbrev ownO (y : Fin 4) : Rect S2048x512 := Rect.unit (s := S2048x512) ![y.val * 512, 0] S512x512.size (ownO_inb y)

/-- The half block the device forwards: rows `x * 256 ...` of its argument. -/
def ownHalf (c : Dev nD) : Vec F S256x512 .bf16 := (aM.access (ownR (xx c))).read (Elt F) (xstg m ρ c)

/-- Slot `y` of `yline`, written with that half block, holds its final contents. -/
theorem own_slot (c : Dev nD) (f : (cc0_scratch0 : Ref sig .tc).ty.Contents (Elt F)) (w : Vec F S1x256x512 .bf16)
    (hw : w = k0_pay7 (ownHalf m ρ c)) :
    ((yM.access (slotR (yy c))).loc (c : Thread nD τ) ↦[(yS (yy c)).view.set]{fullShare} ((yM.access (slotR (yy c))).write (Elt F) f w Finset.univ) : sProp 𝕄)
      = yPts c (yy c) fullShare (line m ρ c) := by
  subst hw
  unfold yPts
  refine pointsTo_congr fun i hi => ?_
  rw [← y_access_set] at hi
  obtain ⟨j, -, rfl⟩ := Finset.mem_map.mp hi
  rw [View.write_emb_of_mem _ _ (Finset.mem_univ j)]
  unfold k0_pay7
  show (shapeCast S1x256x512 (shapeCast S1x256x512 (shapeCast S256x512 (ownHalf m ρ c) shapeCasts_S256x512_S256x512)
    shapeCasts_S256x512_S1x256x512) shapeCasts_S1x256x512_S1x256x512 : S1x256x512.Idx → Elt F .bf16) j = _
  rw [shapeCast_self _ shapeCasts_S1x256x512_S1x256x512]
  refine (shapeCast_addUnit_apply ![256, 512] _ _ j).trans ?_
  rw [shapeCast_self]
  have e0 : ((yM.access (slotR (yy c))).emb j 0 : Fin 4) = yy c := Fin.ext (by
    have h := (j 0).isLt; change (j 0).val < 1 at h
    have h' := ValueKit.view_emb_slice_whole_unit_val cc0_scratch0 _ _ (slot_inb (yy c)) j 0
    exact h'.trans (by show (yy c).val + (j 0).val = (yy c).val; omega))
  unfold ownHalf line lineOf
  dsimp only
  rw [e0, atY_self]
  refine congrArg (xstg m ρ c) (funext fun b => Fin.ext ?_)
  fin_cases b
  · have h1 := ValueKit.view_emb_slice_whole_unit_val cc0_stg0_0 _ _ (ownR_inb (xx c)) (fun a : Fin 2 => j a.succ) 0
    have h2 := ValueKit.view_emb_slice_whole_unit_val cc0_scratch0 _ _ (slot_inb (yy c)) j 1
    refine h1.trans ?_
    exact congrArg ((xx c).val * 256 + ·) ((Nat.zero_add _).symm.trans h2.symm)
  · have h1 := ValueKit.view_emb_slice_whole_unit_val cc0_stg0_0 _ _ (ownR_inb (xx c)) (fun a : Fin 2 => j a.succ) 1
    have h2 := ValueKit.view_emb_slice_whole_unit_val cc0_scratch0 _ _ (slot_inb (yy c)) j 2
    exact h1.trans h2.symm

/-! ## The result, half block by half block -/

/-- The result's buffer, the half blocks in `D` written. -/
def outS (c : Dev nD) (D : Fin 8 → Bool) : sProp 𝕄 :=
  iprop(∃ f : (cc0_stg1_0 : Ref sig .tc).ty.Contents (Elt F), ⌜∀ i : S2048x512.Idx, D (halfOf i) = true → f i = outAt m ρ c i⌝
    ∗ (((c : Thread nD τ).loc cc0_stg1_0) ↦{fullShare} f))

/-- `D` and half block `k`, under a condition. -/
def addH (D : Fin 8 → Bool) (b : Bool) (k : Fin 8) : Fin 8 → Bool := fun k' => D k' || (b && decide (k' = k))

theorem halfR_inb : ∀ k : Fin 8, ∀ a, (![256 * k.val, 0] : Fin 2 → ℕ) a + S256x512.size a ≤ S2048x512.size a := by decide
abbrev halfR (k : Fin 8) : Rect S2048x512 := Rect.unit (s := S2048x512) ![256 * k.val, 0] S256x512.size (halfR_inb k)

omit [FloatOps F] in
/-- Writing half block `k` of the result. -/
theorem write_half (c : Dev nD) (k : Fin 8) (D : Fin 8 → Bool) (f : (cc0_stg1_0 : Ref sig .tc).ty.Contents (Elt F)) (w : Vec F S256x512 .bf16)
    (hw : ∀ j, w j = outAt m ρ c (halfIdx k j)) (hf : ∀ i : S2048x512.Idx, D (halfOf i) = true → f i = outAt m ρ c i)
    (i : S2048x512.Idx) (hi : addH D true k (halfOf i) = true) :
    (oM.access (halfR k)).write (Elt F) f w Finset.univ i = outAt m ρ c i := by
  by_cases h : i ∈ (oM.access (halfR k)).set
  · obtain ⟨j, -, rfl⟩ := Finset.mem_map.mp h
    refine (View.write_emb_of_mem _ _ (Finset.mem_univ j)).trans ?_
    refine (hw j).trans (congrArg (outAt m ρ c) (funext fun b => Fin.ext ?_))
    fin_cases b
    · exact (ValueKit.view_emb_slice_whole_unit_val cc0_stg1_0 _ _ (halfR_inb k) j 0).symm
    · exact ((ValueKit.view_emb_slice_whole_unit_val cc0_stg1_0 _ _ (halfR_inb k) j 1).trans (Nat.zero_add _)).symm
  · rw [View.write_of_not_mem _ _ _ h]
    refine hf i ?_
    unfold addH at hi
    rcases Bool.or_eq_true_iff.mp hi with hi | hi
    · exact hi
    · exfalso; apply h
      have hk : halfOf i = k := by simpa using hi
      refine (ValueKit.mem_set_slice_whole_iff cc0_stg1_0 (halfR k) i Rect.mem_set_unit).mpr fun a => ?_
      have h0 := (i 0).isLt; have h1 := (i 1).isLt
      change (i 1).val < 512 at h1
      have hk' := congrArg Fin.val hk
      change (i 0).val / 256 = k.val at hk'
      fin_cases a
      · show 256 * k.val ≤ (i 0).val ∧ (i 0).val < 256 * k.val + 256; omega
      · show 0 ≤ (i 1).val ∧ (i 1).val < 0 + 512; omega

/-- A device's two own half blocks. -/
def ownD (c : Dev nD) : Fin 8 → Bool := fun k => decide (k.val / 2 = (yy c).val)

theorem ownD_src : ∀ (c : Dev nD) (k : Fin 8), ownD c k = true → srcDev c k = c := by decide

omit [FloatOps F] in
/-- Writing the device's own block in the result. -/
theorem write_own (c : Dev nD) (f : (cc0_stg1_0 : Ref sig .tc).ty.Contents (Elt F)) (i : S2048x512.Idx) (hi : ownD c (halfOf i) = true) :
    (oM.access (ownO (yy c))).write (Elt F) f (xstg m ρ c) Finset.univ i = outAt m ρ c i := by
  have h0 := (i 0).isLt; have h1 := (i 1).isLt
  change (i 0).val < 2048 at h0; change (i 1).val < 512 at h1
  have hk : (i 0).val / 256 / 2 = (yy c).val := of_decide_eq_true hi
  have h : i ∈ (oM.access (ownO (yy c))).set := by
    refine (ValueKit.mem_set_slice_whole_iff cc0_stg1_0 (ownO (yy c)) i Rect.mem_set_unit).mpr fun a => ?_
    fin_cases a
    · show (yy c).val * 512 ≤ (i 0).val ∧ (i 0).val < (yy c).val * 512 + 512; omega
    · show 0 ≤ (i 1).val ∧ (i 1).val < 0 + 512; omega
  unfold outAt; rw [ownD_src c _ hi]
  obtain ⟨j, -, e⟩ := Finset.mem_map.mp h
  have e0 := ValueKit.view_emb_slice_whole_unit_val cc0_stg1_0 _ _ (ownO_inb (yy c)) j 0
  have e1 := ValueKit.view_emb_slice_whole_unit_val cc0_stg1_0 _ _ (ownO_inb (yy c)) j 1
  have hj := (j 0).isLt; change (j 0).val < 512 at hj
  subst e
  refine (View.write_emb_of_mem _ _ (Finset.mem_univ j)).trans ?_
  refine congrArg (xstg m ρ c) (funext fun b => Fin.ext ?_)
  fin_cases b
  · show (j 0).val = ((oM.access (ownO (yy c))).emb j 0).val % 512
    rw [show ((oM.access (ownO (yy c))).emb j 0).val = (yy c).val * 512 + (j 0).val from e0]; omega
  · exact (Nat.zero_add _).symm.trans e1.symm

theorem whole_inb : ∀ a, (![0, 0] : Fin 2 → ℕ) a + S512x512.size a ≤ S512x512.size a := by decide
omit [FloatOps F] in
/-- The whole argument, loaded. -/
theorem read_whole (f : (cc0_stg0_0 : Ref sig .tc).ty.Contents (Elt F)) (inb) :
    (aM.access (Rect.unit (s := S512x512) ![0, 0] S512x512.size inb)).read (Elt F) f = f := by
  funext j
  refine (View.read_apply _ j).trans (congrArg f (funext fun b => Fin.ext ?_))
  fin_cases b
  · exact (ValueKit.view_emb_slice_whole_unit_val cc0_stg0_0 _ _ inb j 0).trans (Nat.zero_add _)
  · exact (ValueKit.view_emb_slice_whole_unit_val cc0_stg0_0 _ _ inb j 1).trans (Nat.zero_add _)

end Cert.GatherProof
-- ==== Proof.Steps.lean ====
/-
  The steps of the run, each once, at any device and slot: a wait on a transfer, a send along y, a send to the peer, the
  loads and the store, and a statement under a printed condition.
-/
module

public import proofs.«01_k».proof.Proof.Slots

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

abbrev 𝒱₀ : Variants := Variants.none

variable (F) in
/-- A program of device `c`'s TensorCore, run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owesX (c : Dev nD) (O : CellTallies nD τ sig Unit) : sProp 𝕄 := iprop(∃ W, owes (c : Thread nD τ) O W)

section
variable {α : Type} {c : Dev nD}

theorem wp_lift {Q : α → sProp 𝕄} {β : Type} (e : TpuEff nD τ sig (Elt F) Λ₀ .tc β) (f : β → Prog (TpuEff nD τ sig (Elt F) Λ₀ .tc) α) :
    WP F c (Prog.lift e >>= f) Q = WP F c (.op e f) Q := rfl

/-- A statement under a condition: run where the condition holds, and where it does not the same resources are at hand
    (up to a change of ghost state). -/
theorem wp_guard {Q : α → sProp 𝕄} {p : Prop} [Decidable p] {P R : sProp 𝕄} {A : p → Prog (TpuEff nD τ sig (Elt F) Λ₀ .tc) α}
    {B : Prog (TpuEff nD τ sig (Elt F) Λ₀ .tc) α}
    (hA : ∀ h : p, P ⊢ iprop((R -∗ WP F c B Q) -∗ WP F c (A h) Q)) (hn : ¬p → P ⊢ iprop(|={Set.univ}=> R)) :
    P ⊢ iprop((R -∗ WP F c B Q) -∗ WP F c (dite p A fun _ => B) Q) := by
  by_cases h : p
  · rw [dif_pos h]; exact hA h
  · rw [dif_neg h]
    iintro HP Hk
    imod (hn h) $$ HP with HR
    iapply Hk; iexact HR

/-! ## Waits -/

/-- A device may wait on a cell below all it owes. -/
theorem mayWait_rec (c : Dev nD) (sm : SemLoc sig) (n : ℕ) (hn : lv ((c : Thread nD τ), sm) () ≤ n) (O : CellTallies nD τ sig Unit) (h : Above n O) :
    records m ρ K ⊢ MayWait (c : Thread nD τ) sm () O := by
  unfold records
  iintro ⟨-, -, H⟩
  iapply (mayWait_of_above c sm n hn O h); iexact H

/-- A wait on a transfer cell with a transfer: what the transfer hands over, and the cell closed at zero. -/
theorem wp_waitD {Q : α → sProp 𝕄} (q : Fin 6) (o : Fin 4) (n : ℕ) (hact : act q o c = true) (hlev : lvd (yy c) q o ≤ n) {O : CellTallies nD τ sig Unit}
    (hO : Above n O) {sem : DmaSem sig} (hsem : sem = xs q o) {src dst : Memref sig .tc .vmem S256x512 .bf16} (hN : dst.view.dmaCredit = N)
    {h1 : src.view.WordExact} {h2 : dst.view.WordExact} {k : PUnit → Prog (TpuEff nD τ sig (Elt F) Λ₀ .tc) α} :
    iprop(records m ρ K ∗ cred (tallyAt (cell c q o) () N) ∗ owesX c O ∗ atPos ER (cell c q o) 0 ∅ 0)
      ⊢ iprop(((owesX c O ∗ semVal (cell c q o) 0 ∗ dmaPay m ρ c q o) -∗ WP F c (k ⟨⟩) Q)
          -∗ WP F c (Prog.lift (.waitDma2 sem src dst h1 h2) >>= k) Q) := by
  subst hsem
  rw [wp_lift]
  have hM := mayWait_rec m ρ K c (.dma (xs q o)) n ((lv_cell c q o).trans_le hlev) O hO
  unfold owesX
  iintro ⟨#Hrec, Hc, ⟨%W, HO⟩, Hat⟩ Hk
  ihave #HI := (rec_inv m ρ K c q o) $$ Hrec
  rw [← hN]
  iapply (Rounds.wp_wait_rest_token 𝒱₀ ER (sched m ρ) (c : Thread nD τ) none (κ := K (c, kq q o))
      (wpE_waitDma2_eq 𝒱₀ (c : Thread nD τ) none Set.univ) (Set.mem_univ _) () (O := O) (W := W) (R := 0) (m := 0) (T := ∅)
      (by rw [Nat.zero_add, hN, expect_cell m ρ c q o hact])) $$ [Hc HO Hat]
  · isplitr; · iexact HI
    isplitl [Hc]; · iexact Hc
    isplitl [HO]; · iexact HO
    isplitr
    · iapply hM; iexact Hrec
    iexact Hat
  iintro ⟨HO, Hat, -, Hpay⟩
  ihave Hpay := (Entails.of_eq (rest_cell m ρ c q o hact)) $$ Hpay
  imod (Rounds.cell_close ER (sched m ρ) (Set.mem_univ (K (c, kq q o))) (fun h => h) (R := 0 + 1) (duties_later m ρ (cell c q o))) $$ [Hat] with Hz
  · isplitr; · iexact HI
    iexact Hat
  iapply Hk
  isplitl [HO]; · iexists _; iexact HO
  isplitl [Hz]; · iexact Hz
  iexact Hpay

/-- A cell no transfer uses closes as it is. -/
theorem close_off (q : Fin 6) (o : Fin 4) (h : act q o c = false) :
    iprop(records m ρ K ∗ atPos ER (cell c q o) 0 ∅ 0) ⊢ iprop(|={Set.univ}=> semVal (cell c q o) 0) := by
  iintro ⟨#Hrec, Hat⟩
  ihave #HI := (rec_inv m ρ K c q o) $$ Hrec
  imod (Rounds.cell_close ER (sched m ρ) (Set.mem_univ (K (c, kq q o))) (fun h => h) (R := 0) (duties_off m ρ c q o h)) $$ [Hat] with Hz
  · isplitr; · iexact HI
    iexact Hat
  imodintro; iexact Hz

/-! ## Sends -/

theorem act_send : ∀ (r : Bool) (o : Fin 4) (c : Dev nD), slotOK r o c = true → fwd r c = true →
    act (qs r) o c = true ∧ act (qr r) o (nb r c) = true := by decide

theorem dmaPay_qs (r : Bool) (o : Fin 4) (c : Dev nD) : dmaPay m ρ c (qs r) o = yPts c o (shr r) (line m ρ c) := by cases r <;> rfl
theorem dmaPay_qr (r : Bool) (o : Fin 4) (c : Dev nD) : dmaPay m ρ c (qr r) o = yPts c o fullShare (line m ρ c) := by cases r <;> rfl

/-- Slot `o` sent to the next device in direction `r`: the share lent, and the slot there filled. -/
theorem wp_sendY {Q : α → sProp 𝕄} (r : Bool) (o : Fin 4) (hok : slotOK r o c = true) (hf : fwd r c = true)
    {src dst : Memref sig .tc .vmem S256x512 .bf16} (hsrc : src = yS o) (hdst : dst = yS o) {n : Dev nD} (hn : n = nb r c)
    {s₁ s₂ : DmaSem sig} (h₁ : s₁ = xs (qs r) o) (h₂ : s₂ = xs (qr r) o) (O : CellTallies nD τ sig Unit)
    {hsc : dst.view.ref.isScScratch = false} {w₁ : src.view.WordExact} {w₂ : dst.view.WordExact}
    {ht : DmaTarget.Typed .vmem (.dma s₂) (.remote (Dev.tc n : Thread nD τ) dst (.dma s₁) hsc)}
    {k : PUnit → Prog (TpuEff nD τ sig (Elt F) Λ₀ .tc) α} :
    iprop(records m ρ K ∗ owesX c (O + sendDue r true o c) ∗ yPts c o (shr r) (line m ρ c)
        ∗ dutyTok ER (cell c (qs r) o) 0 0 ∗ dutyTok ER (cell (nb r c) (qr r) o) 0 0 ∗ yAny (nb r c) o)
      ⊢ iprop(((owesX c O ∗ cred (tallyAt (cell c (qs r) o) () N)) -∗ WP F c (k ⟨⟩) Q)
          -∗ WP F c (Prog.lift (.enqueueDma src (.remote (Dev.tc n : Thread nD τ) dst (.dma s₁) hsc) (.dma s₂) w₁ w₂ ht) >>= k) Q) := by
  subst hsrc hdst hn h₁ h₂
  rw [wp_lift]
  obtain ⟨ha, hb⟩ := act_send r o c hok hf
  unfold owesX yAny
  iintro ⟨#Hrec, ⟨%W, HO⟩, Hsrc, Ht₁, Ht₂, ⟨%fd, Hdst⟩⟩ Hk
  ihave #HI₁ := (rec_inv m ρ K c (qs r) o) $$ Hrec
  ihave #HI₂ := (rec_inv m ρ K (nb r c) (qr r) o) $$ Hrec
  ihave #Hr₁ := (rec_reached m ρ K c (qs r) o) $$ Hrec
  ihave #Hr₂ := (rec_reached m ρ K (nb r c) (qr r) o) $$ Hrec
  have hd₁ : (0 : Fin 3) ∈ (sched m ρ).duties (cell c (qs r) o) 0 := by rw [duties_cell, ha]; exact Finset.mem_singleton_self _
  have hd₂ : (0 : Fin 3) ∈ (sched m ρ).duties (cell (nb r c) (qr r) o) 0 := by rw [duties_cell, hb]; exact Finset.mem_singleton_self _
  have hO : O + sendDue r true o c = O + tallyAt (cell (nb r c) (qr r) o) () N := by unfold sendDue due; rw [hf]; rfl
  have hp₁ : yPts c o (shr r) (line m ρ c) ⊢ (sched m ρ).payload (cell c (qs r) o) 0 0 := by
    rw [payload_cell, dmaPay_qs]
  have hp₂ : yPts (nb r c) o fullShare (line m ρ c) ⊢ (sched m ρ).payload (cell (nb r c) (qr r) o) 0 0 := by
    rw [payload_cell, dmaPay_qr, line_nb m ρ r c hf]
  rw [← landed_y (nb r c) o (line m ρ c) fd] at hp₂
  iapply (Rounds.wp_send_pointsTo 𝒱₀ ER (sched m ρ) (c : Thread nD τ) none (c' := (Dev.tc (nb r c) : Thread nD τ)) (src := yS o) (dst := yS o)
      (κ₁ := K (c, kq (qs r) o)) (κ₂ := K (nb r c, kq (qr r) o)) (r₁ := 0) (r₂ := 0) (d₁ := 0) (d₂ := 0) (fd := fd) (q := shr r) (fs := line m ρ c)
      (hsc := hsc) (k := k) (hsem := ht) (hsrc := w₁) (hdst := w₂) (Q := Q) (Es := Set.univ) hd₁ hd₂ () () N (N_y o)
      (amount_cell m ρ c (qs r) o 0) (amount_cell m ρ (nb r c) (qr r) o 0) O hO (W := W) hp₁ hp₂) $$ [HO Hsrc Ht₁ Ht₂ Hdst]
  · isplitr; · iexact HI₁
    isplitr; · iexact HI₂
    isplitl [Hsrc]; · unfold yPts; iexact Hsrc
    isplitl [Hdst]; · unfold yPts; iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists _; iexact HO
  iexact Hc

/-- Slot `o` sent to the peer: the share lent, and the slot of the peer's `xbuf` filled. -/
theorem wp_sendX {Q : α → sProp 𝕄} (o : Fin 4) (ho : o ≠ yy c)
    {src dst : Memref sig .tc .vmem S256x512 .bf16} (hsrc : src = yS o) (hdst : dst = xS o) {n : Dev nD} (hn : n = peer c)
    {s₁ s₂ : DmaSem sig} (h₁ : s₁ = xs 4 o) (h₂ : s₂ = xs 5 o) (O : CellTallies nD τ sig Unit)
    {hsc : dst.view.ref.isScScratch = false} {w₁ : src.view.WordExact} {w₂ : dst.view.WordExact}
    {ht : DmaTarget.Typed .vmem (.dma s₂) (.remote (Dev.tc n : Thread nD τ) dst (.dma s₁) hsc)}
    {k : PUnit → Prog (TpuEff nD τ sig (Elt F) Λ₀ .tc) α} :
    iprop(records m ρ K ∗ owesX c (O + tallyAt (cell (peer c) 5 o) () N) ∗ yPts c o shx (line m ρ c)
        ∗ dutyTok ER (cell c 4 o) 0 0 ∗ dutyTok ER (cell (peer c) 5 o) 0 0 ∗ xAny (peer c) o)
      ⊢ iprop(((owesX c O ∗ cred (tallyAt (cell c 4 o) () N)) -∗ WP F c (k ⟨⟩) Q)
          -∗ WP F c (Prog.lift (.enqueueDma src (.remote (Dev.tc n : Thread nD τ) dst (.dma s₁) hsc) (.dma s₂) w₁ w₂ ht) >>= k) Q) := by
  subst hsrc hdst hn h₁ h₂
  rw [wp_lift]
  have ha : act 4 o c = true := decide_eq_true ho
  have hb : act 5 o (peer c) = true := decide_eq_true (by rw [yy_peer]; exact ho)
  unfold owesX xAny
  iintro ⟨#Hrec, ⟨%W, HO⟩, Hsrc, Ht₁, Ht₂, ⟨%fd, Hdst⟩⟩ Hk
  ihave #HI₁ := (rec_inv m ρ K c 4 o) $$ Hrec
  ihave #HI₂ := (rec_inv m ρ K (peer c) 5 o) $$ Hrec
  ihave #Hr₁ := (rec_reached m ρ K c 4 o) $$ Hrec
  ihave #Hr₂ := (rec_reached m ρ K (peer c) 5 o) $$ Hrec
  have hd₁ : (0 : Fin 3) ∈ (sched m ρ).duties (cell c 4 o) 0 := by rw [duties_cell, ha]; exact Finset.mem_singleton_self _
  have hd₂ : (0 : Fin 3) ∈ (sched m ρ).duties (cell (peer c) 5 o) 0 := by rw [duties_cell, hb]; exact Finset.mem_singleton_self _
  have hp₁ : yPts c o shx (line m ρ c) ⊢ (sched m ρ).payload (cell c 4 o) 0 0 := by
    rw [payload_cell]; exact BI.Entails.refl _
  have hp₂ : xPts (peer c) o (line m ρ c) ⊢ (sched m ρ).payload (cell (peer c) 5 o) 0 0 := by
    rw [payload_cell]
    show _ ⊢ xPts (peer c) o (line m ρ (peer (peer c)))
    rw [peer_peer]
  rw [← landed_x (peer c) o (line m ρ c) fd] at hp₂
  iapply (Rounds.wp_send_pointsTo 𝒱₀ ER (sched m ρ) (c : Thread nD τ) none (c' := (Dev.tc (peer c) : Thread nD τ)) (src := yS o) (dst := xS o)
      (κ₁ := K (c, kq 4 o)) (κ₂ := K (peer c, kq 5 o)) (r₁ := 0) (r₂ := 0) (d₁ := 0) (d₂ := 0) (fd := fd) (q := shx) (fs := line m ρ c)
      (hsc := hsc) (k := k) (hsem := ht) (hsrc := w₁) (hdst := w₂) (Q := Q) (Es := Set.univ) hd₁ hd₂ () () N (N_x o)
      (amount_cell m ρ c 4 o 0) (amount_cell m ρ (peer c) 5 o 0) O rfl (W := W) hp₁ hp₂) $$ [HO Hsrc Ht₁ Ht₂ Hdst]
  · isplitr; · iexact HI₁
    isplitr; · iexact HI₂
    isplitl [Hsrc]; · unfold yPts; iexact Hsrc
    isplitl [Hdst]; · unfold xPts; iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists _; iexact HO
  iexact Hc

/-! ## Loads and stores -/

/-- A load of a slot of `yline`; -/
theorem wp_loadY {Q : α → sProp 𝕄} (o : Fin 4) {off : Fin 3 → ℕ} (h : off = ![o.val, 0, 0]) {inb} (q : PosShare TreeShare) (f : (cc0_scratch0 : Ref sig .tc).ty.Contents (Elt F))
    {hl} {k : Vec F S1x256x512 .bf16 → Prog (TpuEff nD τ sig (Elt F) Λ₀ .tc) α} :
    yPts c o q f ⊢ iprop((yPts c o q f -∗ WP F c (k (yRead o f)) Q)
      -∗ WP F c (Prog.lift (.load yM (Rect.unit (s := S4x256x512) off S1x256x512.size inb).toLoadRect hl) >>= k) Q) := by
  subst h
  exact wp_load_rect 𝒱₀ (c : Thread nD τ) none Set.univ (m := yM) (r := slotR o) (y_access_set o).subset
/-- of `xbuf`. -/
theorem wp_loadX {Q : α → sProp 𝕄} (o : Fin 4) {off : Fin 3 → ℕ} (h : off = ![o.val, 0, 0]) {inb} (f : (cc0_scratch1 : Ref sig .tc).ty.Contents (Elt F))
    {hl} {k : Vec F S1x256x512 .bf16 → Prog (TpuEff nD τ sig (Elt F) Λ₀ .tc) α} :
    xPts c o f ⊢ iprop((xPts c o f -∗ WP F c (k (xRead o f)) Q)
      -∗ WP F c (Prog.lift (.load xM (Rect.unit (s := S4x256x512) off S1x256x512.size inb).toLoadRect hl) >>= k) Q) := by
  subst h
  exact wp_load_rect 𝒱₀ (c : Thread nD τ) none Set.univ (m := xM) (r := slotR o) (x_access_set o).subset

/-- A load of the result's buffer; what it reads is not used. -/
theorem wp_loadOut {Q : α → sProp 𝕄} (D : Fin 8 → Bool) {r : LoadRect S2048x512} {hl} {k : (r.shape.Idx → Elt F .bf16) → Prog (TpuEff nD τ sig (Elt F) Λ₀ .tc) α}
    {B : Prog (TpuEff nD τ sig (Elt F) Λ₀ .tc) α} (hk : ∀ v, k v = B) :
    outS m ρ c D ⊢ iprop((outS m ρ c D -∗ WP F c B Q) -∗ WP F c (Prog.lift (.load oM r hl) >>= k) Q) := by
  rw [wp_lift]
  unfold outS
  iintro ⟨%f, %hf, H⟩ Hk
  iapply (wp_load 𝒱₀ (c : Thread nD τ) none Set.univ (m := oM) (S := Finset.univ) (f := f) (q := fullShare) (Finset.subset_univ _)) $$ H
  iintro H
  rw [hk]
  iapply Hk
  iexists f; isplitr; · ipureintro; exact hf
  iexact H

/-- A store of half block `k'` of the result. -/
theorem wp_storeOut {Q : α → sProp 𝕄} (k' : Fin 8) (D : Fin 8 → Bool) {off : Fin 2 → ℕ} (h : off = ![256 * k'.val, 0]) {inb} {w : Vec F S256x512 .bf16}
    (hw : ∀ j, w j = outAt m ρ c (halfIdx k' j)) {hx hm} {k : PUnit → Prog (TpuEff nD τ sig (Elt F) Λ₀ .tc) α} :
    outS m ρ c D ⊢ iprop((outS m ρ c (addH D true k') -∗ WP F c (k ⟨⟩) Q)
      -∗ WP F c (Prog.lift (.store oM (Rect.unit (s := S2048x512) off S256x512.size inb) w Finset.univ hx hm) >>= k) Q) := by
  subst h
  rw [wp_lift]
  unfold outS
  iintro ⟨%f, %hf, H⟩ Hk
  iapply (wp_store 𝒱₀ (c : Thread nD τ) none Set.univ (m := oM) (r := halfR k') (S := Finset.univ) (f := f) (Finset.subset_univ _)) $$ H
  iintro H
  iapply Hk
  iexists _; isplitr
  · ipureintro; exact fun i hi => write_half m ρ c k' D f w hw hf i hi
  iexact H

end

end Cert.GatherProof
-- ==== Proof.Landing.lean ====
/-
  A landing along y: its program once, in both directions and at every distance.
-/
module

public import proofs.«01_k».proof.Proof.Steps

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-! ## Names of the printed operands -/

theorem sem_at {q : Fin 6} {o : Fin 4} {s : Fin 1 → ℕ} (h : s = ![o.val]) (inb : ∀ a, s a + S1.size a ≤ S4.size a) :
    (((sarr q).slice (Rect.unit (s := S4) s S1.size inb)).squeeze S_ squeezes_S1_S_).sem = xs q o := by
  subst h; exact sem_eq q o
theorem y_at {o : Fin 4} {s : Fin 3 → ℕ} (h : s = ![o.val, 0, 0]) (inb : ∀ a, s a + S1x256x512.size a ≤ S4x256x512.size a) :
    (yM.slice (Rect.unit (s := S4x256x512) s S1x256x512.size inb) (fun _ => rfl)).squeeze S256x512 squeezes_S1x256x512_S256x512 = yS o := by
  subst h; rfl
theorem x_at {o : Fin 4} {s : Fin 3 → ℕ} (h : s = ![o.val, 0, 0]) (inb : ∀ a, s a + S1x256x512.size a ≤ S4x256x512.size a) :
    (xM.slice (Rect.unit (s := S4x256x512) s S1x256x512.size inb) (fun _ => rfl)).squeeze S256x512 squeezes_S1x256x512_S256x512 = xS o := by
  subst h; rfl
theorem y_credit {o : Fin 4} {v : Memref sig .tc .vmem S256x512 .bf16} (h : v = yS o) : v.view.dmaCredit = N := by subst h; exact N_y o
theorem x_credit {o : Fin 4} {v : Memref sig .tc .vmem S256x512 .bf16} (h : v = xS o) : v.view.dmaCredit = N := by subst h; exact N_x o
theorem dev_at {n : ℕ} {d : Dev nD} (h : n = d.val) (hlt : n < nD) : (⟨n, hlt⟩ : Dev nD) = d := Fin.ext h
theorem row_at : ∀ (o : Fin 4) (x : Fin 2), rowOf o x.val = 256 * (hk o x).val := by decide
theorem row_peer : ∀ (o : Fin 4) (c : Dev nD), rowOf o (1 - (xx c).val) = 256 * (hk o (xx (peer c))).val := by decide

theorem land_facts : ∀ (r : Bool) (d : Fin 4) (c : Dev nD), d ≠ 0 → val r d c = true →
    act (qr r) (org r d c) c = true ∧ slotOK r (org r d c) c = true ∧ org r d c ≠ yy c := by decide

theorem owe_cons (c : Dev nD) (r : Bool) (d : Fin 4) (l : List (Bool × Fin 4)) :
    owe c ((r, d) :: l) = (owe c l + peerDue r d c) + sendDue r (val r d c) (org r d c) c := rfl

/-! ## What the run holds between statements -/

/-- What the sending of slot `o` in direction `r` uses up; -/
def sendToks (r : Bool) (o : Fin 4) (c : Dev nD) : sProp 𝕄 :=
  iprop(dutyTok ER (cell c (qs r) o) 0 0 ∗ dutyTok ER (cell (nb r c) (qr r) o) 0 0 ∗ yAny (nb r c) o)
/-- what there is of the share meant for sending: lent, if there is a device to send to. -/
def sendSt (r : Bool) (o : Fin 4) (c : Dev nD) : sProp 𝕄 :=
  if fwd r c then cred (tallyAt (cell c (qs r) o) () N) else yPts c o (shr r) (line m ρ c)

/-- What a landing along y uses up; -/
def landPre (r : Bool) (d : Fin 4) (c : Dev nD) : sProp 𝕄 :=
  iprop(atPos ER (cell c (qr r) (org r d c)) 0 ∅ 0 ∗ cred (tallyAt (cell c (qr r) (org r d c)) () N)
    ∗ on (fwd r c) (sendToks r (org r d c) c)
    ∗ dutyTok ER (cell c 4 (org r d c)) 0 0 ∗ dutyTok ER (cell (peer c) 5 (org r d c)) 0 0 ∗ xAny (peer c) (org r d c))
/-- what it leaves. -/
def landPost (r : Bool) (d : Fin 4) (c : Dev nD) : sProp 𝕄 :=
  iprop(semVal (cell c (qr r) (org r d c)) 0 ∗ sendSt m ρ r (org r d c) c
    ∗ cred (tallyAt (cell c 4 (org r d c)) () N) ∗ yPts c (org r d c) (shr !r) (line m ρ c))

omit [FloatOps F] in
theorem y_shares_at (r : Bool) (c : Dev nD) (o : Fin 4) (f : (cc0_scratch0 : Ref sig .tc).ty.Contents (Elt F)) :
    yPts c o fullShare f ⊢ iprop(yPts c o (shr r) f ∗ yPts c o (shr !r) f ∗ yPts c o shx f) := by
  iintro H
  ihave H := (y_shares c o f).1 $$ H
  icases H with ⟨H1, H2, H3⟩
  cases r
  · isplitl [H2]; · iexact H2
    isplitl [H1]; · iexact H1
    iexact H3
  · isplitl [H1]; · iexact H1
    isplitl [H2]; · iexact H2
    iexact H3

section
variable {α : Type} {c : Dev nD}

/-- A program that only returns. -/
theorem wp_done {Q : α → sProp 𝕄} {a : α} : Q a ⊢ WP F c (pure a) Q := by
  rw [show WP F c (pure a) Q = iprop(|={Set.univ}=> Q a) from rfl]
  iintro H; imodintro; iexact H

/-- Sending slot `o` on in direction `r`, where there is a device. -/
theorem wp_forward {Q : α → sProp 𝕄} (r : Bool) (o : Fin 4) (hok : slotOK r o c = true) (O : CellTallies nD τ sig Unit)
    {p : BitVec 1} (hp : p = 1#1 ↔ fwd r c = true) {src dst : p = 1#1 → Memref sig .tc .vmem S256x512 .bf16} (hsrc : ∀ h, src h = yS o)
    (hdst : ∀ h, dst h = yS o) {n : p = 1#1 → Dev nD} (hn : ∀ h, n h = nb r c) {s₁ s₂ : p = 1#1 → DmaSem sig} (h₁ : ∀ h, s₁ h = xs (qs r) o)
    (h₂ : ∀ h, s₂ h = xs (qr r) o) {hsc : ∀ h, (dst h).view.ref.isScScratch = false} {w₁ : ∀ h, (src h).view.WordExact} {w₂ : ∀ h, (dst h).view.WordExact}
    {ht : ∀ h, DmaTarget.Typed .vmem (.dma (s₂ h)) (.remote (Dev.tc (n h) : Thread nD τ) (dst h) (.dma (s₁ h)) (hsc h))}
    {B : Prog (TpuEff nD τ sig (Elt F) Λ₀ .tc) α} :
    iprop(records m ρ K ∗ owesX c (O + sendDue r true o c) ∗ yPts c o (shr r) (line m ρ c) ∗ on (fwd r c) (sendToks r o c))
      ⊢ iprop(((owesX c O ∗ sendSt m ρ r o c) -∗ WP F c B Q)
          -∗ WP F c (dite (p = 1#1) (fun h => Prog.lift (.enqueueDma (src h) (.remote (Dev.tc (n h) : Thread nD τ) (dst h) (.dma (s₁ h)) (hsc h))
              (.dma (s₂ h)) (w₁ h) (w₂ h) (ht h)) >>= fun _ => B) (fun _ => B)) Q) := by
  refine wp_guard (fun h => ?_) (fun h => ?_)
  · have hf := hp.mp h
    unfold sendSt sendToks
    rw [if_pos hf, show on (fwd r c) _ = _ from congrArg (on · _) hf, on_true]
    exact wp_sendY m ρ K r o hok hf (hsrc h) (hdst h) (hn h) (h₁ h) (h₂ h) O (k := fun _ => B)
  · have hf : fwd r c = false := Bool.eq_false_iff.mpr fun hf => h (hp.mpr hf)
    unfold sendSt sendDue due
    rw [hf, on_false]
    simp only [Bool.and_false, Bool.false_eq_true, if_false, add_zero]
    iintro ⟨-, HO, Hy, -⟩
    imodintro
    isplitl [HO]; · iexact HO
    iexact Hy

/-- A landing along y: received, sent on, sent to the peer, and read. -/
theorem wp_landing {Q : α → sProp 𝕄} (r : Bool) (d : Fin 4) (hd : d ≠ 0) (l : List (Bool × Fin 4)) (hl : ∀ x ∈ l, d.val ≤ x.2.val)
    (hv : val r d c = true)
    {sem : DmaSem sig} (hsem : sem = xs (qr r) (org r d c)) {src₀ dst₀ : Memref sig .tc .vmem S256x512 .bf16} (hdst₀ : dst₀ = yS (org r d c))
    {w₀ : src₀.view.WordExact} {w₀' : dst₀.view.WordExact}
    {p : BitVec 1} (hp : p = 1#1 ↔ fwd r c = true) {src dst : p = 1#1 → Memref sig .tc .vmem S256x512 .bf16} (hsrc : ∀ h, src h = yS (org r d c))
    (hdst : ∀ h, dst h = yS (org r d c)) {n : p = 1#1 → Dev nD} (hn : ∀ h, n h = nb r c) {s₁ s₂ : p = 1#1 → DmaSem sig}
    (h₁ : ∀ h, s₁ h = xs (qs r) (org r d c)) (h₂ : ∀ h, s₂ h = xs (qr r) (org r d c))
    {hsc : ∀ h, (dst h).view.ref.isScScratch = false} {w₁ : ∀ h, (src h).view.WordExact} {w₂ : ∀ h, (dst h).view.WordExact}
    {ht : ∀ h, DmaTarget.Typed .vmem (.dma (s₂ h)) (.remote (Dev.tc (n h) : Thread nD τ) (dst h) (.dma (s₁ h)) (hsc h))}
    {src' dst' : Memref sig .tc .vmem S256x512 .bf16} (hsrc' : src' = yS (org r d c)) (hdst' : dst' = xS (org r d c)) {n' : Dev nD} (hn' : n' = peer c)
    {t₁ t₂ : DmaSem sig} (ht₁ : t₁ = xs 4 (org r d c)) (ht₂ : t₂ = xs 5 (org r d c)) {hsc' : dst'.view.ref.isScScratch = false}
    {w₁' : src'.view.WordExact} {w₂' : dst'.view.WordExact}
    {ht' : DmaTarget.Typed .vmem (.dma t₂) (.remote (Dev.tc n' : Thread nD τ) dst' (.dma t₁) hsc')}
    {off : Fin 3 → ℕ} (hoff : off = ![(org r d c).val, 0, 0]) {inb} {hld} {k : Vec F S1x256x512 .bf16 → Prog (TpuEff nD τ sig (Elt F) Λ₀ .tc) α} :
    iprop(records m ρ K ∗ owesX c (owe c ((r, d) :: l)) ∗ landPre r d c)
      ⊢ iprop(((owesX c (owe c l) ∗ landPost m ρ r d c) -∗ WP F c (k (yRead (org r d c) (line m ρ c))) Q)
          -∗ WP F c (Prog.lift (.waitDma2 sem src₀ dst₀ w₀ w₀') >>= fun _ =>
              dite (p = 1#1)
                (fun h => Prog.lift (.enqueueDma (src h) (.remote (Dev.tc (n h) : Thread nD τ) (dst h) (.dma (s₁ h)) (hsc h)) (.dma (s₂ h)) (w₁ h) (w₂ h) (ht h)) >>= fun _ =>
                  Prog.lift (.enqueueDma src' (.remote (Dev.tc n' : Thread nD τ) dst' (.dma t₁) hsc') (.dma t₂) w₁' w₂' ht') >>= fun _ =>
                    Prog.lift (.load yM (Rect.unit (s := S4x256x512) off S1x256x512.size inb).toLoadRect hld) >>= k)
                (fun _ => Prog.lift (.enqueueDma src' (.remote (Dev.tc n' : Thread nD τ) dst' (.dma t₁) hsc') (.dma t₂) w₁' w₂' ht') >>= fun _ =>
                    Prog.lift (.load yM (Rect.unit (s := S4x256x512) off S1x256x512.size inb).toLoadRect hld) >>= k)) Q) := by
  obtain ⟨hact, hok, ho⟩ := land_facts r d c hd hv
  have ha : Above (2 + d.val) (owe c ((r, d) :: l)) := above_owe (2 + d.val) c (by omega) _ fun x hx => by
    rcases List.mem_cons.mp hx with rfl | hx
    · show _ < 3 + d.val; omega
    · have := hl x hx; omega
  unfold landPre landPost
  iintro ⟨#Hrec, HO, Hat, Hcr, Hfw, Ht4, Ht5, Hx⟩ Hk
  iapply (wp_waitD m ρ K (qr r) (org r d c) (2 + d.val) hact (lvd_recv r d c hv).le ha hsem (y_credit hdst₀)) $$ [HO Hat Hcr]
  · isplitr; · iexact Hrec
    isplitl [Hcr]; · iexact Hcr
    isplitl [HO]; · iexact HO
    iexact Hat
  rw [dmaPay_qr]
  iintro ⟨HO, Hz, Hy⟩
  ihave Hy := (y_shares_at r c (org r d c) (line m ρ c)) $$ Hy
  icases Hy with ⟨Hs, Hkeep, Hpx⟩
  iapply (wp_forward m ρ K r (org r d c) hok (owe c l + peerDue r d c) hp hsrc hdst hn h₁ h₂) $$ [HO Hs Hfw]
  · isplitr; · iexact Hrec
    isplitl [HO]; · rw [← hv]; iexact HO
    isplitl [Hs]; · iexact Hs
    iexact Hfw
  iintro ⟨HO, Hst⟩
  iapply (wp_sendX m ρ K (org r d c) ho hsrc' hdst' hn' ht₁ ht₂ (owe c l)) $$ [HO Hpx Ht4 Ht5 Hx]
  · isplitr; · iexact Hrec
    isplitl [HO]; · unfold peerDue due; rw [hv, if_pos rfl]; iexact HO
    isplitl [Hpx]; · iexact Hpx
    isplitl [Ht4]; · iexact Ht4
    isplitl [Ht5]; · iexact Ht5
    iexact Hx
  iintro ⟨HO, Hc4⟩
  iapply (wp_loadY (org r d c) hoff (shr !r) (line m ρ c)) $$ Hkeep
  iintro Hkeep
  iapply Hk
  isplitl [HO]; · iexact HO
  isplitl [Hz]; · iexact Hz
  isplitl [Hst]; · iexact Hst
  isplitl [Hc4]; · iexact Hc4
  iexact Hkeep

/-- The statement of a landing along y: the part that receives, then the store of what it read. -/
theorem wp_landGuard {Q : α → sProp 𝕄} (r : Bool) (d : Fin 4) (hd : d ≠ 0) (l : List (Bool × Fin 4)) (D : Fin 8 → Bool)
    {p p' : BitVec 1} {s1 s2 : Fin 1 → ℕ} {m1 m2 m3 : Fin 3 → ℕ} {out : Fin 2 → ℕ} {nF nP : ℕ} (hL : LandForm r d c p p' s1 m1 s2 m2 m3 out nF nP)
    {part : p = 1#1 → Prog (TpuEff nD τ sig (Elt F) Λ₀ .tc) (Σ' (_ : FVec F S256x512 .bf16), BitVec 32)} {wd : BitVec 32}
    (hpart : ∀ (h : p = 1#1) (Q' : (Σ' (_ : FVec F S256x512 .bf16), BitVec 32) → sProp 𝕄),
      iprop(records m ρ K ∗ owesX c (owe c ((r, d) :: l)) ∗ landPre r d c)
        ⊢ iprop(((owesX c (owe c l) ∗ landPost m ρ r d c)
            -∗ WP F c (pure ⟨shapeCast S256x512 (yRead (org r d c) (line m ρ c)) shapeCasts_S1x256x512_S256x512, wd⟩) Q') -∗ WP F c (part h) Q'))
    {kk : p = 1#1 → (Σ' (_ : FVec F S256x512 .bf16), BitVec 32) → Prog (TpuEff nD τ sig (Elt F) Λ₀ .tc) α}
    {B : Prog (TpuEff nD τ sig (Elt F) Λ₀ .tc) α}
    (hkk : ∀ (h : p = 1#1) v w, ∃ lr hl inb hx hm, kk h ⟨v, w⟩ = (Prog.lift (.load oM lr hl) >>= fun _ =>
      Prog.lift (.store oM (Rect.unit (s := S2048x512) out S256x512.size inb) v Finset.univ hx hm) >>= fun _ => B)) :
    iprop(records m ρ K ∗ owesX c (owe c ((r, d) :: l)) ∗ outS m ρ c D ∗ on (val r d c) (landPre r d c))
      ⊢ iprop(((owesX c (owe c l) ∗ outS m ρ c (addH D (val r d c) (hk (org r d c) (xx c))) ∗ on (val r d c) (landPost m ρ r d c)) -∗ WP F c B Q)
          -∗ WP F c (dite (p = 1#1) (fun h => part h >>= kk h) (fun _ => B)) Q) := by
  refine wp_guard (fun h => ?_) (fun h => ?_)
  · have hv := hL.1.mp h
    obtain ⟨-, -, ho⟩ := land_facts r d c hd hv
    rw [hv, on_true, on_true]
    rw [show WP F c (part h >>= kk h) Q = WP F c (part h) (fun x => WP F c (kk h x) Q) from wp_bind _ _ _ _ _ _]
    iintro ⟨#Hrec, HO, Hout, Hpre⟩ Hk
    iapply (hpart h _) $$ [HO Hpre]
    · isplitr; · iexact Hrec
      isplitl [HO]; · iexact HO
      iexact Hpre
    iintro ⟨HO, Hpost⟩
    obtain ⟨lr, hl, inb, hx, hm, e⟩ := hkk h (shapeCast S256x512 (yRead (org r d c) (line m ρ c)) shapeCasts_S1x256x512_S256x512) wd
    iapply (wp_done (F := F) (c := c))
    beta_reduce
    rw [e]
    iapply (wp_loadOut m ρ D (fun _ => rfl)) $$ Hout
    iintro Hout
    iapply (wp_storeOut m ρ (hk (org r d c) (xx c)) D ((hL.2 h).2.2.2.2.1.trans (by rw [row_at]))
      (pay_y m ρ c (org r d c) ho shapeCasts_S1x256x512_S256x512)) $$ Hout
    iintro Hout
    iapply Hk
    isplitl [HO]; · iexact HO
    isplitl [Hout]; · iexact Hout
    iexact Hpost
  · have hv : val r d c = false := Bool.eq_false_iff.mpr fun hf => h (hL.1.mpr hf)
    rw [hv, on_false, on_false]
    iintro ⟨-, HO, Hout, -⟩
    imodintro
    isplitl [HO]; · rw [owe_cons]; unfold peerDue sendDue due; rw [hv]; simp only [Bool.false_and, Bool.false_eq_true, if_false, add_zero]; iexact HO
    isplitl [Hout]
    · rw [show addH D false (hk (org r d c) (xx c)) = D from funext fun k => by simp [addH]]; iexact Hout
    iempintro

end

end Cert.GatherProof
-- ==== Proof.Guards.lean ====
/-
  The later statements: a landing from the peer, and the waits for sends to complete.
-/
module

public import proofs.«01_k».proof.Proof.Landing

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

theorem act_x : ∀ (r : Bool) (d : Fin 4) (c : Dev nD), d ≠ 0 → val r d c = true →
    act 4 (org r d c) c = true ∧ act 5 (org r d c) c = true := by decide
theorem act_qs : ∀ (r : Bool) (d : Fin 4) (c : Dev nD), val r d c = true → act (qs r) (org r d c) c = fwd r c := by decide

omit [FloatOps F] in
theorem addH_false (D : Fin 8 → Bool) (k : Fin 8) : addH D false k = D := funext fun k' => by simp [addH]

section
variable {α : Type} {c : Dev nD}

/-- The statement of a landing from the peer: received, read and stored. -/
theorem wp_xlandGuard {Q : α → sProp 𝕄} (r : Bool) (d : Fin 4) (hd : d ≠ 0) (D : Fin 8 → Bool)
    {p : BitVec 1} {s1 : Fin 1 → ℕ} {m1 m3 : Fin 3 → ℕ} {out : Fin 2 → ℕ} (hX : XLandForm r d c p s1 m1 m3 out)
    {sem : p = 1#1 → DmaSem sig} (hsem : ∀ h, sem h = xs 5 (org r d c))
    {src dst : p = 1#1 → Memref sig .tc .vmem S256x512 .bf16} (hdst : ∀ h, dst h = xS (org r d c))
    {w₁ : ∀ h, (src h).view.WordExact} {w₂ : ∀ h, (dst h).view.WordExact}
    {inb : ∀ h : p = 1#1, ∀ a, m3 a + S1x256x512.size a ≤ S4x256x512.size a}
    {inb' : ∀ h : p = 1#1, ∀ a, out a + S256x512.size a ≤ S2048x512.size a}
    {hld : ∀ h : p = 1#1, xM.view.LoadsAt (Rect.unit (s := S4x256x512) m3 S1x256x512.size (inb h)).toLoadRect}
    {hlo : ∀ h : p = 1#1, oM.view.LoadsAt (Rect.unit (s := S2048x512) out S256x512.size (inb' h)).toLoadRect}
    {hx : ∀ h : p = 1#1, (oM.access (Rect.unit (s := S2048x512) out S256x512.size (inb' h))).Stores Finset.univ}
    {pay : Vec F S1x256x512 .bf16 → Vec F S256x512 .bf16} (hpay : ∀ v, pay v = shapeCast S256x512 v shapeCasts_S1x256x512_S256x512)
    {B : Prog (TpuEff nD τ sig (Elt F) Λ₀ .tc) α} :
    iprop(records m ρ K ∗ owesX c 0 ∗ outS m ρ c D ∗ on (val r d c) iprop(atPos ER (cell c 5 (org r d c)) 0 ∅ 0 ∗ cred (tallyAt (cell c 5 (org r d c)) () N)))
      ⊢ iprop(((owesX c 0 ∗ outS m ρ c (addH D (val r d c) (hk (org r d c) (xx (peer c))))
            ∗ on (val r d c) iprop(semVal (cell c 5 (org r d c)) 0 ∗ xPts c (org r d c) (line m ρ (peer c)))) -∗ WP F c B Q)
          -∗ WP F c (dite (p = 1#1) (fun h => Prog.lift (.waitDma2 (sem h) (src h) (dst h) (w₁ h) (w₂ h)) >>= fun _ =>
              Prog.lift (.load xM (Rect.unit (s := S4x256x512) m3 S1x256x512.size (inb h)).toLoadRect (hld h)) >>= fun v =>
              Prog.lift (.load oM (Rect.unit (s := S2048x512) out S256x512.size (inb' h)).toLoadRect (hlo h)) >>= fun _ =>
              Prog.lift (.store oM (Rect.unit (s := S2048x512) out S256x512.size (inb' h)) (pay v) Finset.univ (hx h) (.inl rfl)) >>= fun _ => B)
            (fun _ => B)) Q) := by
  refine wp_guard (fun h => ?_) (fun h => ?_)
  · have hv := hX.1.mp h
    obtain ⟨-, -, ho⟩ := land_facts r d c hd hv
    obtain ⟨-, ha⟩ := act_x r d c hd hv
    rw [hv, on_true, on_true]
    iintro ⟨#Hrec, HO, Hout, Hat, Hcr⟩ Hk
    iapply (wp_waitD m ρ K 5 (org r d c) _ ha (Nat.le_refl _) (Above.zero _) (hsem h) (x_credit (hdst h))) $$ [HO Hat Hcr]
    · isplitr; · iexact Hrec
      isplitl [Hcr]; · iexact Hcr
      isplitl [HO]; · iexact HO
      iexact Hat
    rw [show dmaPay m ρ c 5 (org r d c) = xPts c (org r d c) (line m ρ (peer c)) from rfl]
    iintro ⟨HO, Hz, Hx⟩
    iapply (wp_loadX (org r d c) (hX.2 h).2.2.1 (line m ρ (peer c))) $$ Hx
    iintro Hx
    iapply (wp_loadOut m ρ D (fun _ => rfl)) $$ Hout
    iintro Hout
    iapply (wp_storeOut m ρ (hk (org r d c) (xx (peer c))) D ((hX.2 h).2.2.2.trans (by rw [row_peer]))
      (by rw [hpay]; exact pay_x m ρ c (org r d c) ho shapeCasts_S1x256x512_S256x512)) $$ Hout
    iintro Hout
    iapply Hk
    isplitl [HO]; · iexact HO
    isplitl [Hout]; · iexact Hout
    isplitl [Hz]; · iexact Hz
    iexact Hx
  · have hv : val r d c = false := Bool.eq_false_iff.mpr fun hf => h (hX.1.mpr hf)
    rw [hv, on_false, on_false, addH_false]
    iintro ⟨-, HO, Hout, -⟩
    imodintro
    isplitl [HO]; · iexact HO
    isplitl [Hout]; · iexact Hout
    iempintro

/-- The statement waiting for a send along y to complete: the share is back, and the cell is closed. -/
theorem wp_sendWait {Q : α → sProp 𝕄} (r : Bool) (d : Fin 4) {p : BitVec 1} {s1 : Fin 1 → ℕ} {m1 : Fin 3 → ℕ}
    (hW : WaitForm (val r d c && fwd r c) (org r d c) p s1 m1)
    {sem : p = 1#1 → DmaSem sig} (hsem : ∀ h, sem h = xs (qs r) (org r d c))
    {src dst : p = 1#1 → Memref sig .tc .vmem S256x512 .bf16} (hdst : ∀ h, dst h = yS (org r d c))
    {w₁ : ∀ h, (src h).view.WordExact} {w₂ : ∀ h, (dst h).view.WordExact} {B : Prog (TpuEff nD τ sig (Elt F) Λ₀ .tc) α} :
    iprop(records m ρ K ∗ owesX c 0 ∗ on (val r d c) iprop(atPos ER (cell c (qs r) (org r d c)) 0 ∅ 0 ∗ sendSt m ρ r (org r d c) c))
      ⊢ iprop(((owesX c 0 ∗ on (val r d c) iprop(semVal (cell c (qs r) (org r d c)) 0 ∗ yPts c (org r d c) (shr r) (line m ρ c))) -∗ WP F c B Q)
          -∗ WP F c (dite (p = 1#1) (fun h => Prog.lift (.waitDma2 (sem h) (src h) (dst h) (w₁ h) (w₂ h)) >>= fun _ => B) (fun _ => B)) Q) := by
  refine wp_guard (fun h => ?_) (fun h => ?_)
  · obtain ⟨hv, hf⟩ := (Bool.and_eq_true _ _).mp (hW.1.mp h) |> fun x => (⟨x.1, x.2⟩ : _ ∧ _)
    have ha : act (qs r) (org r d c) c = true := (act_qs r d c hv).trans hf
    unfold sendSt
    rw [hv, on_true, on_true, if_pos hf]
    iintro ⟨#Hrec, HO, Hat, Hcr⟩ Hk
    iapply (wp_waitD m ρ K (qs r) (org r d c) _ ha (Nat.le_refl _) (Above.zero _) (hsem h) (y_credit (hdst h)) (k := fun _ => B)) $$ [HO Hat Hcr]
    · isplitr; · iexact Hrec
      isplitl [Hcr]; · iexact Hcr
      isplitl [HO]; · iexact HO
      iexact Hat
    rw [dmaPay_qs]
    iintro ⟨HO, Hz, Hy⟩
    iapply Hk
    isplitl [HO]; · iexact HO
    isplitl [Hz]; · iexact Hz
    iexact Hy
  · cases hv : val r d c
    · rw [on_false, on_false]
      iintro ⟨-, HO, -⟩
      imodintro
      isplitl [HO]; · iexact HO
      iempintro
    · have hf : fwd r c = false := Bool.eq_false_iff.mpr fun hf => h (hW.1.mpr (by rw [hv, hf]; rfl))
      unfold sendSt
      rw [on_true, on_true, if_neg (by rw [hf]; decide)]
      iintro ⟨#Hrec, HO, Hat, Hy⟩
      imod (close_off m ρ K (qs r) (org r d c) ((act_qs r d c hv).trans hf)) $$ [Hat] with Hz
      · isplitr; · iexact Hrec
        iexact Hat
      imodintro
      isplitl [HO]; · iexact HO
      isplitl [Hz]; · iexact Hz
      iexact Hy

/-- The statement waiting for a send to the peer to complete. -/
theorem wp_xsendWait {Q : α → sProp 𝕄} (b : Bool) (o : Fin 4) (hb : b = true → act 4 o c = true) {p : BitVec 1} {s1 : Fin 1 → ℕ} {m1 : Fin 3 → ℕ}
    (hW : WaitForm b o p s1 m1)
    {sem : p = 1#1 → DmaSem sig} (hsem : ∀ h, sem h = xs 4 o)
    {src dst : p = 1#1 → Memref sig .tc .vmem S256x512 .bf16} (hdst : ∀ h, dst h = yS o)
    {w₁ : ∀ h, (src h).view.WordExact} {w₂ : ∀ h, (dst h).view.WordExact} {B : Prog (TpuEff nD τ sig (Elt F) Λ₀ .tc) α} :
    iprop(records m ρ K ∗ owesX c 0 ∗ on b iprop(atPos ER (cell c 4 o) 0 ∅ 0 ∗ cred (tallyAt (cell c 4 o) () N)))
      ⊢ iprop(((owesX c 0 ∗ on b iprop(semVal (cell c 4 o) 0 ∗ yPts c o shx (line m ρ c))) -∗ WP F c B Q)
          -∗ WP F c (dite (p = 1#1) (fun h => Prog.lift (.waitDma2 (sem h) (src h) (dst h) (w₁ h) (w₂ h)) >>= fun _ => B) (fun _ => B)) Q) := by
  refine wp_guard (fun h => ?_) (fun h => ?_)
  · have hv := hW.1.mp h
    rw [on, if_pos hv, on, if_pos hv]
    iintro ⟨#Hrec, HO, Hat, Hcr⟩ Hk
    iapply (wp_waitD m ρ K 4 o _ (hb hv) (Nat.le_refl _) (Above.zero _) (hsem h) (y_credit (hdst h)) (k := fun _ => B)) $$ [HO Hat Hcr]
    · isplitr; · iexact Hrec
      isplitl [Hcr]; · iexact Hcr
      isplitl [HO]; · iexact HO
      iexact Hat
    rw [show dmaPay m ρ c 4 o = yPts c o shx (line m ρ c) from rfl]
    iintro ⟨HO, Hz, Hy⟩
    iapply Hk
    isplitl [HO]; · iexact HO
    isplitl [Hz]; · iexact Hz
    iexact Hy
  · have hv : ¬b = true := fun hf => h (hW.1.mpr hf)
    rw [on, if_neg hv, on, if_neg hv]
    iintro ⟨-, HO, -⟩
    imodintro
    isplitl [HO]; · iexact HO
    iempintro

end

end Cert.GatherProof
-- ==== Proof.Parts.lean ====
/-
  The printed parts of the body.
-/
module

public import proofs.«01_k».proof.Proof.Guards

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-- Semaphore of an array at a printed offset; -/
abbrev semA (q : Fin 6) (s : Fin 1 → ℕ) (inb : ∀ a, s a + S1.size a ≤ S4.size a) : DmaSem sig :=
  (((sarr q).slice (Rect.unit (s := S4) s S1.size inb)).squeeze S_ squeezes_S1_S_).sem
/-- slot of the y buffer at a printed offset; -/
abbrev yA (s : Fin 3 → ℕ) (inb : ∀ a, s a + S1x256x512.size a ≤ S4x256x512.size a) : Memref sig .tc .vmem S256x512 .bf16 :=
  (yM.slice (Rect.unit (s := S4x256x512) s S1x256x512.size inb) (fun _ => rfl)).squeeze S256x512 squeezes_S1x256x512_S256x512
/-- slot of the x buffer at a printed offset. -/
abbrev xA (s : Fin 3 → ℕ) (inb : ∀ a, s a + S1x256x512.size a ≤ S4x256x512.size a) : Memref sig .tc .vmem S256x512 .bf16 :=
  (xM.slice (Rect.unit (s := S4x256x512) s S1x256x512.size inb) (fun _ => rfl)).squeeze S256x512 squeezes_S1x256x512_S256x512

section
variable {c : Dev nD}

/-- A printed landing part, at the words of its `LandForm`. -/
theorem wp_part {Q : (Σ' (_ : FVec F S256x512 .bf16), BitVec 32) → sProp 𝕄} (r : Bool) (d : Fin 4) (hd : d ≠ 0) (l : List (Bool × Fin 4))
    (hl : ∀ x ∈ l, d.val ≤ x.2.val)
    {p p' : BitVec 1} {s1 s2 : Fin 1 → ℕ} {m1 m2 m3 : Fin 3 → ℕ} {out : Fin 2 → ℕ} {nF nP : ℕ}
    (hL : LandForm r d c p p' s1 m1 s2 m2 m3 out nF nP) (h : p = 1#1)
    {i₁ : ∀ a, s1 a + S1.size a ≤ S4.size a} {j₁ : ∀ a, m1 a + S1x256x512.size a ≤ S4x256x512.size a}
    {i₂ : p' = 1#1 → ∀ a, s2 a + S1.size a ≤ S4.size a} {j₂ : p' = 1#1 → ∀ a, m2 a + S1x256x512.size a ≤ S4x256x512.size a}
    {hF : p' = 1#1 → nF < nD} {hP : nP < nD} {w₀ : (yA m1 j₁).view.WordExact}
    {hsc : ∀ h : p' = 1#1, (yA m2 (j₂ h)).view.ref.isScScratch = false} {w₁ : ∀ h : p' = 1#1, (yA m2 (j₂ h)).view.WordExact}
    {ht : ∀ h : p' = 1#1, DmaTarget.Typed .vmem (.dma (semA (qr r) s2 (i₂ h))) (.remote (Dev.tc (⟨nF, hF h⟩ : Dev nD) : Thread nD τ) (yA m2 (j₂ h)) (.dma (semA (qs r) s2 (i₂ h))) (hsc h))}
    {hsc' : (xA m1 j₁).view.ref.isScScratch = false} {w₂ : (xA m1 j₁).view.WordExact}
    {ht' : DmaTarget.Typed .vmem (.dma (semA 5 s1 i₁)) (.remote (Dev.tc (⟨nP, hP⟩ : Dev nD) : Thread nD τ) (xA m1 j₁) (.dma (semA 4 s1 i₁)) hsc')}
    {inb} {hld} {wd : BitVec 32} :
    iprop(records m ρ K ∗ owesX c (owe c ((r, d) :: l)) ∗ landPre r d c)
      ⊢ iprop(((owesX c (owe c l) ∗ landPost m ρ r d c)
            -∗ WP F c (pure ⟨shapeCast S256x512 (yRead (org r d c) (line m ρ c)) shapeCasts_S1x256x512_S256x512, wd⟩) Q)
          -∗ WP F c (Prog.lift (.waitDma2 (semA (qr r) s1 i₁) (yA m1 j₁) (yA m1 j₁) w₀ w₀) >>= fun _ =>
              dite (p' = 1#1)
                (fun h => Prog.lift (.enqueueDma (yA m2 (j₂ h)) (.remote (Dev.tc (⟨nF, hF h⟩ : Dev nD) : Thread nD τ) (yA m2 (j₂ h)) (.dma (semA (qs r) s2 (i₂ h))) (hsc h))
                    (.dma (semA (qr r) s2 (i₂ h))) (w₁ h) (w₁ h) (ht h)) >>= fun _ =>
                  Prog.lift (.enqueueDma (yA m1 j₁) (.remote (Dev.tc (⟨nP, hP⟩ : Dev nD) : Thread nD τ) (xA m1 j₁) (.dma (semA 4 s1 i₁)) hsc') (.dma (semA 5 s1 i₁)) w₀ w₂ ht') >>= fun _ =>
                    Prog.lift (.load yM (Rect.unit (s := S4x256x512) m3 S1x256x512.size inb).toLoadRect hld) >>= fun v =>
                      pure ⟨shapeCast S256x512 v shapeCasts_S1x256x512_S256x512, wd⟩)
                (fun _ => Prog.lift (.enqueueDma (yA m1 j₁) (.remote (Dev.tc (⟨nP, hP⟩ : Dev nD) : Thread nD τ) (xA m1 j₁) (.dma (semA 4 s1 i₁)) hsc') (.dma (semA 5 s1 i₁)) w₀ w₂ ht') >>= fun _ =>
                    Prog.lift (.load yM (Rect.unit (s := S4x256x512) m3 S1x256x512.size inb).toLoadRect hld) >>= fun v =>
                      pure ⟨shapeCast S256x512 v shapeCasts_S1x256x512_S256x512, wd⟩)) Q) := by
  have f := hL.2 h
  have g := f.2.2.2.2.2.2
  exact wp_landing m ρ K (α := Σ' (_ : FVec F S256x512 .bf16), BitVec 32) (Q := Q) (c := c) r d hd l hl (hL.1.mp h) (sem := semA (qr r) s1 i₁) (sem_at f.2.1 i₁) (src₀ := yA m1 j₁) (dst₀ := yA m1 j₁) (y_at f.2.2.1 j₁)
    (w₀ := w₀) (w₀' := w₀) (p := p') f.1 (src := fun h => yA m2 (j₂ h)) (dst := fun h => yA m2 (j₂ h)) (fun h => y_at (g h).2.1 (j₂ h)) (fun h => y_at (g h).2.1 (j₂ h))
    (n := fun h => ⟨nF, hF h⟩) (fun h => dev_at (g h).2.2 (hF h)) (s₁ := fun h => semA (qs r) s2 (i₂ h)) (s₂ := fun h => semA (qr r) s2 (i₂ h))
    (fun h => sem_at (g h).1 (i₂ h)) (fun h => sem_at (g h).1 (i₂ h)) (hsc := hsc) (w₁ := w₁) (w₂ := w₁) (ht := ht)
    (src' := yA m1 j₁) (dst' := xA m1 j₁) (y_at f.2.2.1 j₁) (x_at f.2.2.1 j₁) (n' := ⟨nP, hP⟩)
    (dev_at f.2.2.2.2.2.1 hP) (t₁ := semA 4 s1 i₁) (t₂ := semA 5 s1 i₁) (sem_at f.2.1 i₁) (sem_at f.2.1 i₁) (hsc' := hsc') (w₁' := w₀) (w₂' := w₂) (ht' := ht')
    (off := m3) f.2.2.2.1 (inb := inb) (hld := hld) (k := fun v => pure ⟨shapeCast S256x512 v shapeCasts_S1x256x512_S256x512, wd⟩)

/-- A landing part receives, sends on, sends to the peer, and returns the half block it read. -/
def LandSpec (r : Bool) (d : Fin 4) (l : List (Bool × Fin 4)) (c : Dev nD) (part : Prog (TpuEff nD τ sig (Elt F) Λ₀ .tc) (Σ' (_ : FVec F S256x512 .bf16), BitVec 32))
    (wd : BitVec 32) : Prop :=
  ∀ Q' : (Σ' (_ : FVec F S256x512 .bf16), BitVec 32) → sProp 𝕄,
    iprop(records m ρ K ∗ owesX c (owe c ((r, d) :: l)) ∗ landPre r d c)
      ⊢ iprop(((owesX c (owe c l) ∗ landPost m ρ r d c)
          -∗ WP F c (pure ⟨shapeCast S256x512 (yRead (org r d c) (line m ρ c)) shapeCasts_S1x256x512_S256x512, wd⟩) Q') -∗ WP F c part Q')

section
variable {h0 : aM.IsWhole} {h1 : oM.IsWhole} {h2 : yM.IsWhole} {h3 : xM.IsWhole} {v2 v5 v8 v9 v31 w : BitVec 32}

theorem part1_spec (h : k0_cond7 c = 1#1) : LandSpec m ρ K true 1 [(false, 1), (true, 2), (false, 2), (true, 3), (false, 3)] c (k0_part1 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part1_eq_skeleton]; exact wp_part m ρ K true 1 (by decide) [(false, 1), (true, 2), (false, 2), (true, 3), (false, 3)] (by decide) (land_R1 c) h
theorem part2_spec (h : k0_cond9 c = 1#1) : LandSpec m ρ K false 1 [(true, 2), (false, 2), (true, 3), (false, 3)] c (k0_part2 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part2_eq_skeleton]; exact wp_part m ρ K false 1 (by decide) [(true, 2), (false, 2), (true, 3), (false, 3)] (by decide) (land_L1 c) h
theorem part3_spec (h : k0_cond11 c = 1#1) : LandSpec m ρ K true 2 [(false, 2), (true, 3), (false, 3)] c (k0_part3 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part3_eq_skeleton]; exact wp_part m ρ K true 2 (by decide) [(false, 2), (true, 3), (false, 3)] (by decide) (land_R2 c) h
theorem part4_spec (h : k0_cond13 c = 1#1) : LandSpec m ρ K false 2 [(true, 3), (false, 3)] c (k0_part4 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part4_eq_skeleton]; exact wp_part m ρ K false 2 (by decide) [(true, 3), (false, 3)] (by decide) (land_L2 c) h
theorem part5_spec (h : k0_cond15 c = 1#1) : LandSpec m ρ K true 3 [(false, 3)] c (k0_part5 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part5_eq_skeleton]; exact wp_part m ρ K true 3 (by decide) [(false, 3)] (by decide) (land_R3 c) h
theorem part6_spec (h : k0_cond17 c = 1#1) : LandSpec m ρ K false 3 [] c (k0_part6 aM h0 oM h1 yM h2 xM h3
    cc0_scratch2 cc0_scratch3 cc0_scratch4 cc0_scratch5 cc0_scratch6 cc0_scratch7 c v2 v5 v8 v9 v31 w h) (Scalar.addi (Scalar.muli w 512#32) v31) := fun _ => by
  rw [k0_part6_eq_skeleton]; exact wp_part m ρ K false 3 (by decide) [] (by decide) (land_L3 c) h

end

section
variable {α : Type} {h0 : aM.IsWhole} {h1 : oM.IsWhole} {h2 : yM.IsWhole} {h3 : xM.IsWhole}

omit [FloatOps F] in
theorem curry2 {P A B R : sProp 𝕄} (h : iprop(P ∗ A ∗ B) ⊢ R) : P ⊢ iprop(A -∗ B -∗ R) := by
  iintro HP HA HB; iapply h; isplitl [HP]; · iexact HP
  isplitl [HA]; · iexact HA
  iexact HB
omit [FloatOps F] in
theorem curry3 {P A B C R : sProp 𝕄} (h : iprop(P ∗ A ∗ B ∗ C) ⊢ R) : P ⊢ iprop(A -∗ B -∗ C -∗ R) :=
  curry2 (P := P) (by
    iintro ⟨HP, HA, HB⟩ HC; iapply h; isplitl [HP]; · iexact HP
    isplitl [HA]; · iexact HA
    isplitl [HB]; · iexact HB
    iexact HC)

/-- What the statements of (`r`, `d`) use up and leave, where there is a device at that distance: the landing along y; -/
def LPre (r : Bool) (d : Fin 4) (c : Dev nD) : sProp 𝕄 := on (val r d c) (landPre r d c)
def LPost (r : Bool) (d : Fin 4) (c : Dev nD) : sProp 𝕄 := on (val r d c) (landPost m ρ r d c)
/-- the landing from the peer; -/
def XPre (r : Bool) (d : Fin 4) (c : Dev nD) : sProp 𝕄 :=
  on (val r d c) iprop(atPos ER (cell c 5 (org r d c)) 0 ∅ 0 ∗ cred (tallyAt (cell c 5 (org r d c)) () N))
def XPost (r : Bool) (d : Fin 4) (c : Dev nD) : sProp 𝕄 :=
  on (val r d c) iprop(semVal (cell c 5 (org r d c)) 0 ∗ xPts c (org r d c) (line m ρ (peer c)))
/-- the wait for the send along y; -/
def SPre (r : Bool) (d : Fin 4) (c : Dev nD) : sProp 𝕄 :=
  on (val r d c) iprop(atPos ER (cell c (qs r) (org r d c)) 0 ∅ 0 ∗ sendSt m ρ r (org r d c) c)
def SPost (r : Bool) (d : Fin 4) (c : Dev nD) : sProp 𝕄 :=
  on (val r d c) iprop(semVal (cell c (qs r) (org r d c)) 0 ∗ yPts c (org r d c) (shr r) (line m ρ c))
/-- the wait for the send to the peer. -/
def WPre (r : Bool) (d : Fin 4) (c : Dev nD) : sProp 𝕄 :=
  on (val r d c) iprop(atPos ER (cell c 4 (org r d c)) 0 ∅ 0 ∗ cred (tallyAt (cell c 4 (org r d c)) () N))
def WPost (r : Bool) (d : Fin 4) (c : Dev nD) : sProp 𝕄 :=
  on (val r d c) iprop(semVal (cell c 4 (org r d c)) 0 ∗ yPts c (org r d c) shx (line m ρ c))
/-- The halves stored after a landing along y; from the peer. -/
def dY (c : Dev nD) (r : Bool) (d : Fin 4) (D : Fin 8 → Bool) : Fin 8 → Bool := addH D (val r d c) (hk (org r d c) (xx c))
def dX (c : Dev nD) (r : Bool) (d : Fin 4) (D : Fin 8 → Bool) : Fin 8 → Bool := addH D (val r d c) (hk (org r d c) (xx (peer c)))

/-- `wp_xlandGuard` at the printed words. -/
theorem wp_xland {Q : α → sProp 𝕄} (r : Bool) (d : Fin 4) (hd : d ≠ 0) (D : Fin 8 → Bool)
    {p : BitVec 1} {s1 : Fin 1 → ℕ} {m1 m3 : Fin 3 → ℕ} {out : Fin 2 → ℕ} (hX : XLandForm r d c p s1 m1 m3 out)
    {i₁ : p = 1#1 → ∀ a, s1 a + S1.size a ≤ S4.size a} {j₁ : p = 1#1 → ∀ a, m1 a + S1x256x512.size a ≤ S4x256x512.size a}
    {w₁ : ∀ h : p = 1#1, (yA m1 (j₁ h)).view.WordExact} {w₂ : ∀ h : p = 1#1, (xA m1 (j₁ h)).view.WordExact}
    {inb : ∀ h : p = 1#1, ∀ a, m3 a + S1x256x512.size a ≤ S4x256x512.size a}
    {inb' : ∀ h : p = 1#1, ∀ a, out a + S256x512.size a ≤ S2048x512.size a}
    {hld : ∀ h : p = 1#1, xM.view.LoadsAt (Rect.unit (s := S4x256x512) m3 S1x256x512.size (inb h)).toLoadRect}
    {hlo : ∀ h : p = 1#1, oM.view.LoadsAt (Rect.unit (s := S2048x512) out S256x512.size (inb' h)).toLoadRect}
    {hx : ∀ h : p = 1#1, (oM.access (Rect.unit (s := S2048x512) out S256x512.size (inb' h))).Stores Finset.univ}
    {B : Prog (TpuEff nD τ sig (Elt F) Λ₀ .tc) α} :
    records m ρ K
      ⊢ iprop(owesX c (owe c []) -∗ outS m ρ c D -∗ XPre r d c -∗ ((owesX c (owe c []) ∗ outS m ρ c (dX c r d D) ∗ XPost m ρ r d c) -∗ WP F c B Q)
          -∗ WP F c (dite (p = 1#1) (fun h => Prog.lift (.waitDma2 (semA 5 s1 (i₁ h)) (yA m1 (j₁ h)) (xA m1 (j₁ h)) (w₁ h) (w₂ h)) >>= fun _ =>
              Prog.lift (.load xM (Rect.unit (s := S4x256x512) m3 S1x256x512.size (inb h)).toLoadRect (hld h)) >>= fun v =>
              Prog.lift (.load oM (Rect.unit (s := S2048x512) out S256x512.size (inb' h)).toLoadRect (hlo h)) >>= fun _ =>
              Prog.lift (.store oM (Rect.unit (s := S2048x512) out S256x512.size (inb' h)) (shapeCast S256x512 v shapeCasts_S1x256x512_S256x512) Finset.univ (hx h) (.inl rfl)) >>= fun _ => B)
            (fun _ => B)) Q) :=
  curry3 <| wp_xlandGuard m ρ K r d hd D hX (sem := fun h => semA 5 s1 (i₁ h)) (fun h => sem_at (hX.2 h).1 (i₁ h)) (src := fun h => yA m1 (j₁ h)) (dst := fun h => xA m1 (j₁ h))
    (fun h => x_at (hX.2 h).2.1 (j₁ h)) (w₁ := w₁) (w₂ := w₂) (inb := inb) (inb' := inb') (hld := hld) (hlo := hlo) (hx := hx)
    (pay := fun v => shapeCast S256x512 v shapeCasts_S1x256x512_S256x512) (fun _ => rfl) (B := B)

/-- `wp_sendWait` at the printed words. -/
theorem wp_sWait {Q : α → sProp 𝕄} (r : Bool) (d : Fin 4) {p : BitVec 1} {s1 : Fin 1 → ℕ} {m1 : Fin 3 → ℕ}
    (hW : WaitForm (val r d c && fwd r c) (org r d c) p s1 m1)
    {i₁ : p = 1#1 → ∀ a, s1 a + S1.size a ≤ S4.size a} {j₁ : p = 1#1 → ∀ a, m1 a + S1x256x512.size a ≤ S4x256x512.size a}
    {w₁ w₂ : ∀ h : p = 1#1, (yA m1 (j₁ h)).view.WordExact} {B : Prog (TpuEff nD τ sig (Elt F) Λ₀ .tc) α} :
    records m ρ K
      ⊢ iprop(owesX c (owe c []) -∗ SPre m ρ r d c -∗ ((owesX c (owe c []) ∗ SPost m ρ r d c) -∗ WP F c B Q)
          -∗ WP F c (dite (p = 1#1) (fun h => Prog.lift (.waitDma2 (semA (qs r) s1 (i₁ h)) (yA m1 (j₁ h)) (yA m1 (j₁ h)) (w₁ h) (w₂ h)) >>= fun _ => B) (fun _ => B)) Q) :=
  curry2 <| wp_sendWait m ρ K r d hW (sem := fun h => semA (qs r) s1 (i₁ h)) (fun h => sem_at (hW.2 h).1 (i₁ h)) (src := fun h => yA m1 (j₁ h)) (dst := fun h => yA m1 (j₁ h))
    (fun h => y_at (hW.2 h).2 (j₁ h)) (w₁ := w₁) (w₂ := w₂) (B := B)

/-- `wp_xsendWait` at the printed words. -/
theorem wp_xWait {Q : α → sProp 𝕄} (r : Bool) (d : Fin 4) (hd : d ≠ 0) {p : BitVec 1} {s1 : Fin 1 → ℕ} {m1 : Fin 3 → ℕ}
    (hW : WaitForm (val r d c) (org r d c) p s1 m1)
    {i₁ : p = 1#1 → ∀ a, s1 a + S1.size a ≤ S4.size a} {j₁ : p = 1#1 → ∀ a, m1 a + S1x256x512.size a ≤ S4x256x512.size a}
    {w₁ : ∀ h : p = 1#1, (xA m1 (j₁ h)).view.WordExact} {w₂ : ∀ h : p = 1#1, (yA m1 (j₁ h)).view.WordExact} {B : Prog (TpuEff nD τ sig (Elt F) Λ₀ .tc) α} :
    records m ρ K
      ⊢ iprop(owesX c (owe c []) -∗ WPre r d c -∗ ((owesX c (owe c []) ∗ WPost m ρ r d c) -∗ WP F c B Q)
          -∗ WP F c (dite (p = 1#1) (fun h => Prog.lift (.waitDma2 (semA 4 s1 (i₁ h)) (xA m1 (j₁ h)) (yA m1 (j₁ h)) (w₁ h) (w₂ h)) >>= fun _ => B) (fun _ => B)) Q) :=
  curry2 <| wp_xsendWait m ρ K (val r d c) (org r d c) (fun hv => (act_x r d c hd hv).1) hW (sem := fun h => semA 4 s1 (i₁ h)) (fun h => sem_at (hW.2 h).1 (i₁ h)) (src := fun h => xA m1 (j₁ h)) (dst := fun h => yA m1 (j₁ h))
    (fun h => y_at (hW.2 h).2 (j₁ h)) (w₁ := w₁) (w₂ := w₂) (B := B)

/-- A wait for a send to the peer that is never reached. -/
theorem wp_noWait {Q : α → sProp 𝕄} {o : Fin 4} {p : BitVec 1} {s1 : Fin 1 → ℕ} {m1 : Fin 3 → ℕ} (hW : WaitForm false o p s1 m1)
    {A : p = 1#1 → Prog (TpuEff nD τ sig (Elt F) Λ₀ .tc) α} {B : Prog (TpuEff nD τ sig (Elt F) Λ₀ .tc) α} :
    WP F c B Q ⊢ WP F c (dite (p = 1#1) A (fun _ => B)) Q := by
  rw [dif_neg fun h => Bool.false_ne_true (hW.1.mp h)]

/-- `wp_landGuard`, one resource after the other. -/
theorem wp_land {Q : α → sProp 𝕄} (r : Bool) (d : Fin 4) (hd : d ≠ 0) (l : List (Bool × Fin 4)) (D : Fin 8 → Bool)
    {p p' : BitVec 1} {s1 s2 : Fin 1 → ℕ} {m1 m2 m3 : Fin 3 → ℕ} {out : Fin 2 → ℕ} {nF nP : ℕ} (hL : LandForm r d c p p' s1 m1 s2 m2 m3 out nF nP)
    {part : p = 1#1 → Prog (TpuEff nD τ sig (Elt F) Λ₀ .tc) (Σ' (_ : FVec F S256x512 .bf16), BitVec 32)} {wd : BitVec 32}
    (hpart : ∀ h : p = 1#1, LandSpec m ρ K r d l c (part h) wd)
    {kk : p = 1#1 → (Σ' (_ : FVec F S256x512 .bf16), BitVec 32) → Prog (TpuEff nD τ sig (Elt F) Λ₀ .tc) α}
    {B : Prog (TpuEff nD τ sig (Elt F) Λ₀ .tc) α}
    (hkk : ∀ (h : p = 1#1) v w, ∃ lr hl inb hx hm, kk h ⟨v, w⟩ = (Prog.lift (.load oM lr hl) >>= fun _ =>
      Prog.lift (.store oM (Rect.unit (s := S2048x512) out S256x512.size inb) v Finset.univ hx hm) >>= fun _ => B)) :
    records m ρ K ⊢ iprop(owesX c (owe c ((r, d) :: l)) -∗ outS m ρ c D -∗ LPre r d c
      -∗ ((owesX c (owe c l) ∗ outS m ρ c (dY c r d D) ∗ LPost m ρ r d c) -∗ WP F c B Q)
      -∗ WP F c (dite (p = 1#1) (fun h => part h >>= kk h) (fun _ => B)) Q) :=
  curry3 <| wp_landGuard m ρ K r d hd l D hL hpart hkk

end

end

end Cert.GatherProof
-- ==== Proof.Share.lean ====
/-
  A device's slots by distance: its own, then the three behind it in each direction (where they exist). What a device
  holds of a slot at the start, between the landing and the end, and at the end; and how the barrier hands the slots
  round.
-/
module

public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

omit [FloatOps F] in
theorem emp_sep_eq (P : sProp 𝕄) : iprop(emp ∗ P) = P := BI.equiv_iff.mp ⟨emp_sep.1, emp_sep.2⟩

omit [FloatOps F] in
theorem sep_emp_eq (P : sProp 𝕄) : iprop(P ∗ emp) = P := BI.equiv_iff.mp ⟨sep_emp.1, sep_emp.2⟩

/-! ## The slots by distance -/

/-- `R` at the slot at distance `d` behind `c` in direction `r`, if there is one. -/
def atD (c : Dev nD) (r : Bool) (d : Fin 4) (R : Fin 4 → sProp 𝕄) : sProp 𝕄 := on (val r d c) (R (org r d c))

/-- The conjunction of the six of them. -/
def six (P : Bool → Fin 4 → sProp 𝕄) : sProp 𝕄 :=
  iprop(P true 1 ∗ P false 1 ∗ P true 2 ∗ P false 2 ∗ P true 3 ∗ P false 3)

theorem places : ∀ c : Dev nD,
    (yy c = 0 ∧ (∀ d, d ≠ 0 → val true d c = false) ∧ (∀ d, val false d c = true ∧ org false d c = d)) ∨
    (yy c = 1 ∧ val true 1 c = true ∧ val true 2 c = false ∧ val true 3 c = false ∧ val false 1 c = true ∧ val false 2 c = true ∧ val false 3 c = false
      ∧ org true 1 c = 0 ∧ org false 1 c = 2 ∧ org false 2 c = 3) ∨
    (yy c = 2 ∧ val true 1 c = true ∧ val true 2 c = true ∧ val true 3 c = false ∧ val false 1 c = true ∧ val false 2 c = false ∧ val false 3 c = false
      ∧ org true 1 c = 1 ∧ org true 2 c = 0 ∧ org false 1 c = 3) ∨
    (yy c = 3 ∧ (∀ d, d ≠ 0 → val false d c = false) ∧ (∀ d, val true d c = true) ∧ org true 1 c = 2 ∧ org true 2 c = 1 ∧ org true 3 c = 0) := by decide

omit [FloatOps F] in
/-- The four slots are the device's own and those at the distances there are. -/
theorem by_distance (c : Dev nD) (R : Fin 4 → sProp 𝕄) : bigSep Finset.univ R ⊣⊢ iprop(R (yy c) ∗ six fun r d => atD c r d R) := by
  rw [bigSep_univ_eq_bigSepL [(0 : Fin 4), 1, 2, 3] (by decide) (by decide) R]
  show iprop(R 0 ∗ R 1 ∗ R 2 ∗ R 3) ⊣⊢ _
  unfold six atD
  dsimp only
  have n1 : (1 : Fin 4) ≠ 0 := by decide
  have n2 : (2 : Fin 4) ≠ 0 := by decide
  have n3 : (3 : Fin 4) ≠ 0 := by decide
  rcases places c with ⟨hy, ht, hf⟩ | ⟨hy, t1, t2, t3, f1, f2, f3, o1, o2, o3⟩ | ⟨hy, t1, t2, t3, f1, f2, f3, o1, o2, o3⟩ | ⟨hy, hf, ht, o1, o2, o3⟩
  · rw [hy, ht 1 n1, ht 2 n2, ht 3 n3, (hf 1).1, (hf 2).1, (hf 3).1, (hf 1).2, (hf 2).2, (hf 3).2]
    simp only [on_true, on_false, emp_sep_eq, sep_emp_eq]
    exact ⟨BI.Entails.refl _, BI.Entails.refl _⟩
  · rw [hy, t1, t2, t3, f1, f2, f3, o1, o2, o3]
    simp only [on_true, on_false, emp_sep_eq, sep_emp_eq]
    constructor
    · iintro ⟨H0, H1, H2, H3⟩; iframe
    · iintro ⟨H1, H0, H2, H3⟩; iframe
  · rw [hy, t1, t2, t3, f1, f2, f3, o1, o2, o3]
    simp only [on_true, on_false, emp_sep_eq, sep_emp_eq]
    constructor
    · iintro ⟨H0, H1, H2, H3⟩; iframe
    · iintro ⟨H2, H1, H3, H0⟩; iframe
  · rw [hy, hf 1 n1, hf 2 n2, hf 3 n3, ht 1, ht 2, ht 3, o1, o2, o3]
    simp only [on_true, on_false, emp_sep_eq, sep_emp_eq]
    constructor
    · iintro ⟨H0, H1, H2, H3⟩; iframe
    · iintro ⟨H3, H2, H1, H0⟩; iframe

omit [FloatOps F] in
theorem six_mono {P Q : Bool → Fin 4 → sProp 𝕄} (h : ∀ r d, d ≠ 0 → P r d ⊢ Q r d) : six P ⊢ six Q := by
  unfold six
  exact BI.sep_mono (h true 1 (by decide)) <| BI.sep_mono (h false 1 (by decide)) <| BI.sep_mono (h true 2 (by decide)) <|
    BI.sep_mono (h false 2 (by decide)) <| BI.sep_mono (h true 3 (by decide)) (h false 3 (by decide))
omit [FloatOps F] in
theorem six_sep (P Q : Bool → Fin 4 → sProp 𝕄) : iprop(six P ∗ six Q) ⊣⊢ six fun r d => iprop(P r d ∗ Q r d) := by
  unfold six
  dsimp only
  constructor
  · iintro ⟨⟨H1, H2, H3, H4, H5, H6⟩, G1, G2, G3, G4, G5, G6⟩; iframe
  · iintro ⟨⟨H1, G1⟩, ⟨H2, G2⟩, ⟨H3, G3⟩, ⟨H4, G4⟩, ⟨H5, G5⟩, H6, G6⟩; iframe
omit [FloatOps F] in
theorem six_fupd (P : Bool → Fin 4 → sProp 𝕄) : (six fun r d => iprop(|={Set.univ}=> P r d)) ⊢ iprop(|={Set.univ}=> six P) := by
  unfold six
  iintro ⟨H1, H2, H3, H4, H5, H6⟩
  imod H1; imod H2; imod H3; imod H4; imod H5; imod H6
  imodintro; iframe

/-! ## The barrier hands the slots round -/

theorem x_sel : ∀ (c : Dev nD) (r : Bool) (d : Fin 4), d ≠ 0 → (val r d c && decide (org r d c ≠ yy c)) = val r d c := by decide
theorem y_sel : ∀ (c : Dev nD) (r : Bool) (d : Fin 4), slotOK r (yy c) c = true ∧ (val r d c = true → slotOK r (org r d c) c = true) := by decide
theorem y_give : ∀ (c : Dev nD) (r : Bool) (d : Fin 4), d ≠ 0 →
    (fwd (!r) c = true → (val (!r) d c && slotOK r (org (!r) d c) (bk r c)) = false) ∧ (val r d c = true → fwd (!r) c = true ∧ slotOK r (org r d c) (bk r c) = true)
      ∧ (fwd (!r) c = true → slotOK r (yy c) (bk r c) = false) := by decide

omit [FloatOps F] in
/-- The peer's slots, by distance. -/
theorem take_x (c : Dev nD) : barPayX (F := F) c ⊢ six fun r d => atD c r d (xAny (peer c)) := by
  unfold barPayX
  refine (by_distance c _).1.trans ?_
  iintro ⟨-, H⟩
  iapply (six_mono (fun r d hd => ?_)) $$ H
  unfold atD
  rw [on_on, x_sel c r d hd]

omit [FloatOps F] in
/-- The neighbour's slots in direction `r`: `c`'s own and those behind it. -/
theorem take_y (r : Bool) (c : Dev nD) : on (fwd r c) (barPayY (F := F) r c)
    ⊢ iprop(on (fwd r c) (yAny (nb r c) (yy c)) ∗ on (fwd r c) (atD c r 1 (yAny (nb r c))) ∗ on (fwd r c) (atD c r 2 (yAny (nb r c)))
        ∗ on (fwd r c) (atD c r 3 (yAny (nb r c)))) := by
  cases fwd r c
  · simp only [on_false, emp_sep_eq]; iintro -; iempintro
  simp only [on_true]
  unfold barPayY
  have h (d : Fin 4) : atD c r d (fun o => on (slotOK r o c) (yAny (F := F) (nb r c) o)) ⊢ atD c r d (yAny (nb r c)) := by
    unfold atD; rw [on_on]
    cases hv : val r d c
    · exact BI.Entails.refl _
    · rw [(y_sel c r d).2 hv]; exact BI.Entails.refl _
  refine (by_distance c _).1.trans ?_
  rw [(y_sel c r 0).1, on_true]
  unfold six
  cases r
  · iintro ⟨H0, -, H1, -, H2, -, H3⟩
    ihave H1 := (h 1) $$ H1; ihave H2 := (h 2) $$ H2; ihave H3 := (h 3) $$ H3
    iframe
  · iintro ⟨H0, H1, -, H2, -, H3, -⟩
    ihave H1 := (h 1) $$ H1; ihave H2 := (h 2) $$ H2; ihave H3 := (h 3) $$ H3
    iframe

omit [FloatOps F] in
/-- What `c` hands the peer; -/
theorem give_x (c : Dev nD) : (bigSep Finset.univ fun o => xAny (F := F) c o) ⊢ iprop(xAny c (yy c) ∗ barPay (peer c) 0) := by
  have e : barPay (F := F) (peer c) 0 = bigSep Finset.univ fun o : Fin 4 => on (decide (o ≠ yy c)) (xAny c o) := by
    show barPayX (peer c) = _
    unfold barPayX; rw [peer_peer, yy_peer]
  rw [e]
  refine (by_distance c _).1.trans ?_
  iintro ⟨H0, H⟩
  isplitl [H0]; · iexact H0
  iapply (by_distance c _).2
  rw [show decide (yy c ≠ yy c) = false from decide_eq_false fun h => h rfl, on_false, emp_sep_eq]
  iapply (six_mono (fun r d hd => ?_)) $$ H
  unfold atD
  rw [on_on, x_sel c r d hd]

omit [FloatOps F] in
/-- the device behind it in direction `r`. -/
theorem give_y' (r : Bool) (c : Dev nD) : iprop(atD c r 1 (yAny (F := F) c) ∗ atD c r 2 (yAny c) ∗ atD c r 3 (yAny c))
    ⊢ on (fwd (!r) c) (barPayY r (bk r c)) := by
  cases hf : fwd (!r) c
  · rw [on_false]; iintro -; iempintro
  rw [on_true]
  unfold barPayY
  rw [nb_bk]
  have h (d : Fin 4) (hd : d ≠ 0) : atD c r d (yAny (F := F) c) ⊢ atD c r d fun o => on (slotOK r o (bk r c)) (yAny c o) := by
    unfold atD; rw [on_on]
    cases hv : val r d c
    · exact BI.Entails.refl _
    · rw [((y_give c r d hd).2.1 hv).2]; exact BI.Entails.refl _
  have h' (d : Fin 4) (hd : d ≠ 0) : (atD c (!r) d fun o => on (slotOK r o (bk r c)) (yAny (F := F) c o)) = iprop(emp) := by
    unfold atD; rw [on_on, (y_give c r d hd).1 hf, on_false]
  iintro ⟨H1, H2, H3⟩
  ihave H1 := (h 1 (by decide)) $$ H1; ihave H2 := (h 2 (by decide)) $$ H2; ihave H3 := (h 3 (by decide)) $$ H3
  iapply (by_distance c _).2
  rw [(y_give c r 1 (by decide)).2.2 hf, on_false, emp_sep_eq]
  unfold six
  have n1 := h' 1 (by decide)
  have n2 := h' 2 (by decide)
  have n3 := h' 3 (by decide)
  cases r <;> (simp only [Bool.not_true, Bool.not_false] at n1 n2 n3; simp only [n1, n2, n3, emp_sep_eq, sep_emp_eq]; iframe)

omit [FloatOps F] in
theorem give_y (c : Dev nD) : (bigSep Finset.univ fun o => yAny (F := F) c o)
    ⊢ iprop(yAny c (yy c) ∗ on (fwd false c) (barPayY true (bk true c)) ∗ on (fwd true c) (barPayY false (bk false c))) := by
  refine (by_distance c _).1.trans ?_
  unfold six
  iintro ⟨H0, T1, F1, T2, F2, T3, F3⟩
  ihave HT := (give_y' true c) $$ [T1 T2 T3]
  · iframe
  ihave HF := (give_y' false c) $$ [F1 F2 F3]
  · iframe
  isplitl [H0]; · iexact H0
  isplitl [HT]; · iexact HT
  iexact HF

/-! ## What a device holds of a slot -/

/-- The waits on slot `o` of every array; -/
def atAll (c : Dev nD) (o : Fin 4) : sProp 𝕄 := bigSep Finset.univ fun q : Fin 6 => atPos ER (cell c q o) 0 ∅ 0
/-- the duties of its transfers: its own sends, and the landings they bring about. -/
def tokAll (c : Dev nD) (o : Fin 4) : sProp 𝕄 :=
  iprop(dutyTok ER (cell c 0 o) 0 0 ∗ dutyTok ER (cell c 2 o) 0 0 ∗ dutyTok ER (cell c 4 o) 0 0
    ∗ dutyTok ER (cell (up c) 1 o) 0 0 ∗ dutyTok ER (cell (down c) 3 o) 0 0 ∗ dutyTok ER (cell (peer c) 5 o) 0 0)
/-- The counters of slot `o` of every array, at zero. -/
def zeroAll (c : Dev nD) (o : Fin 4) : sProp 𝕄 := bigSep Finset.univ fun q : Fin 6 => semVal (cell c q o) 0
/-- Slot `o` when the run is over. -/
def doneAll (c : Dev nD) (o : Fin 4) : sProp 𝕄 := iprop(zeroAll c o ∗ yAny c o ∗ xAny c o)

omit [FloatOps F] in
theorem six_arrays (r : Bool) (R : Fin 6 → sProp 𝕄) :
    bigSep Finset.univ R ⊣⊢ iprop(R (qs r) ∗ R (qr r) ∗ R (qs !r) ∗ R (qr !r) ∗ R 4 ∗ R 5) := by
  rw [bigSep_univ_eq_bigSepL [(0 : Fin 6), 1, 2, 3, 4, 5] (by decide) (by decide) R]
  show iprop(R 0 ∗ R 1 ∗ R 2 ∗ R 3 ∗ R 4 ∗ R 5) ⊣⊢ _
  cases r
  · show iprop(R 0 ∗ R 1 ∗ R 2 ∗ R 3 ∗ R 4 ∗ R 5) ⊣⊢ iprop(R 2 ∗ R 3 ∗ R 0 ∗ R 1 ∗ R 4 ∗ R 5)
    constructor
    · iintro ⟨H0, H1, H2, H3, H4, H5⟩; iframe
    · iintro ⟨H2, H3, H0, H1, H4, H5⟩; iframe
  · show iprop(R 0 ∗ R 1 ∗ R 2 ∗ R 3 ∗ R 4 ∗ R 5) ⊣⊢ iprop(R 0 ∗ R 1 ∗ R 2 ∗ R 3 ∗ R 4 ∗ R 5)
    exact ⟨BI.Entails.refl _, BI.Entails.refl _⟩

omit [FloatOps F] in
/-- The duties for sending on in direction `r` and to the peer. -/
theorem toks_dir (r : Bool) (c : Dev nD) (o : Fin 4) : tokAll (F := F) c o
    ⊢ iprop((dutyTok ER (cell c (qs r) o) 0 0 ∗ dutyTok ER (cell (nb r c) (qr r) o) 0 0)
        ∗ (dutyTok ER (cell c (qs !r) o) 0 0 ∗ dutyTok ER (cell (nb (!r) c) (qr !r) o) 0 0)
        ∗ dutyTok ER (cell c 4 o) 0 0 ∗ dutyTok ER (cell (peer c) 5 o) 0 0) := by
  unfold tokAll
  cases r
  · show _ ⊢ iprop((dutyTok ER (cell c 2 o) 0 0 ∗ dutyTok ER (cell (down c) 3 o) 0 0) ∗ (dutyTok ER (cell c 0 o) 0 0 ∗ dutyTok ER (cell (up c) 1 o) 0 0) ∗ _ ∗ _)
    iintro ⟨H0, H2, H4, H1, H3, H5⟩; iframe
  · show _ ⊢ iprop((dutyTok ER (cell c 0 o) 0 0 ∗ dutyTok ER (cell (up c) 1 o) 0 0) ∗ (dutyTok ER (cell c 2 o) 0 0 ∗ dutyTok ER (cell (down c) 3 o) 0 0) ∗ _ ∗ _)
    iintro ⟨H0, H2, H4, H1, H3, H5⟩; iframe

/-- What stays aside while the block at distance `d` lands; -/
def Keep (r : Bool) (d : Fin 4) (c : Dev nD) : sProp 𝕄 :=
  on (val r d c) iprop(atPos ER (cell c (qs r) (org r d c)) 0 ∅ 0 ∗ atPos ER (cell c 4 (org r d c)) 0 ∅ 0
    ∗ atPos ER (cell c (qs !r) (org r d c)) 0 ∅ 0 ∗ atPos ER (cell c (qr !r) (org r d c)) 0 ∅ 0)
/-- and after it has landed. -/
def Rest (r : Bool) (d : Fin 4) (c : Dev nD) : sProp 𝕄 :=
  on (val r d c) iprop(semVal (cell c (qr r) (org r d c)) 0 ∗ yPts c (org r d c) (shr !r) (line m ρ c)
    ∗ atPos ER (cell c (qs !r) (org r d c)) 0 ∅ 0 ∗ atPos ER (cell c (qr !r) (org r d c)) 0 ∅ 0)

/-- The credits of the landings at distance `d`. -/
def creds (r : Bool) (d : Fin 4) (c : Dev nD) : sProp 𝕄 :=
  on (val r d c) iprop(cred (tallyAt (cell c (qr r) (org r d c)) () N) ∗ cred (tallyAt (cell c 5 (org r d c)) () N))

omit [FloatOps F] in
/-- Everything the landing at distance `d` needs. -/
theorem slot_start (r : Bool) (d : Fin 4) (c : Dev nD) :
    iprop(atD c r d (fun o => iprop(atAll c o ∗ tokAll c o)) ∗ creds (F := F) r d c ∗ atD c r d (xAny (peer c)) ∗ on (fwd r c) (atD c r d (yAny (nb r c))))
      ⊢ iprop(LPre r d c ∗ XPre r d c ∗ Keep r d c) := by
  unfold atD creds LPre XPre Keep landPre
  cases val r d c
  · simp only [on_false, emp_sep_eq]; iintro -; iempintro
  simp only [on_true]
  iintro ⟨⟨Hat, Htok⟩, ⟨C1, C5⟩, Hx, Hy⟩
  unfold atAll
  ihave Hat := (six_arrays r _).1 $$ Hat
  icases Hat with ⟨A1, A2, A3, A4, A5, A6⟩
  ihave Htok := (toks_dir r c _) $$ Htok
  icases Htok with ⟨T1, -, T4, T5⟩
  ihave Hfw : on (fwd r c) (sendToks (F := F) r (org r d c) c) $$ [T1 Hy]
  · cases fwd r c
    · rw [on_false]; iempintro
    · simp only [on_true]; unfold sendToks
      icases T1 with ⟨Ta, Tb⟩; iframe
  iframe

/-- After the landing: what the waits for the sends need. -/
theorem slot_mid (r : Bool) (d : Fin 4) (c : Dev nD) : iprop(LPost m ρ r d c ∗ Keep r d c) ⊢ iprop(SPre m ρ r d c ∗ WPre r d c ∗ Rest m ρ r d c) := by
  unfold LPost Keep SPre WPre Rest landPost
  cases val r d c
  · simp only [on_false, emp_sep_eq]; iintro -; iempintro
  simp only [on_true]
  iintro ⟨⟨Z, S, C4, Y⟩, A1, A4, A2, A3⟩
  iframe

theorem off_dir : ∀ (r : Bool) (d : Fin 4) (c : Dev nD), d ≠ 0 → val r d c = true → act (qs !r) (org r d c) c = false ∧ act (qr !r) (org r d c) c = false := by
  decide
theorem off_own : ∀ c : Dev nD, act 1 (yy c) c = false ∧ act 3 (yy c) c = false ∧ act 4 (yy c) c = false ∧ act 5 (yy c) c = false := by decide

/-- The three shares of a slot are the slot. -/
theorem shares_any (r : Bool) (c : Dev nD) (o : Fin 4) (f : (cc0_scratch0 : Ref sig .tc).ty.Contents (Elt F)) :
    iprop(yPts c o (shr r) f ∗ yPts c o (shr !r) f ∗ yPts c o shx f) ⊢ yAny c o := by
  unfold yAny
  iintro ⟨H1, H2, H3⟩
  iexists f
  iapply (y_shares c o f).2
  cases r
  · isplitl [H2]; · iexact H2
    isplitl [H1]; · iexact H1
    iexact H3
  · isplitl [H1]; · iexact H1
    isplitl [H2]; · iexact H2
    iexact H3

/-- At the end the slot at distance `d` is whole again and its counters are at zero; -/
theorem slot_end (r : Bool) (d : Fin 4) (hd : d ≠ 0) (c : Dev nD) :
    iprop(records m ρ K ∗ Rest m ρ r d c ∗ SPost m ρ r d c ∗ WPost m ρ r d c ∗ XPost m ρ r d c) ⊢ iprop(|={Set.univ}=> atD c r d (doneAll c)) := by
  unfold Rest SPost WPost XPost atD
  cases hv : val r d c
  · simp only [on_false]; iintro -; imodintro; iempintro
  simp only [on_true]
  iintro ⟨#Hrec, ⟨Z2, Y2, A3, A4⟩, ⟨Z1, Y1⟩, ⟨Z4, Y4⟩, Z5, X⟩
  imod (close_off m ρ K (qs !r) (org r d c) (off_dir r d c hd hv).1) $$ [A3] with Z3
  · isplitr; · iexact Hrec
    iexact A3
  imod (close_off m ρ K (qr !r) (org r d c) (off_dir r d c hd hv).2) $$ [A4] with Z6
  · isplitr; · iexact Hrec
    iexact A4
  imodintro
  unfold doneAll zeroAll xAny
  isplitl [Z1 Z2 Z3 Z4 Z5 Z6]
  · iapply (six_arrays r _).2; iframe
  isplitl [Y1 Y2 Y4]
  · iapply (shares_any r c _ _); iframe
  · iexists _; iexact X

/-- so is the device's own. -/
theorem own_end (c : Dev nD) :
    iprop(records m ρ K ∗ (atPos ER (cell c 1 (yy c)) 0 ∅ 0 ∗ atPos ER (cell c 3 (yy c)) 0 ∅ 0 ∗ atPos ER (cell c 4 (yy c)) 0 ∅ 0 ∗ atPos ER (cell c 5 (yy c)) 0 ∅ 0)
        ∗ SPost m ρ true 0 c ∗ SPost m ρ false 0 c ∗ yPts c (yy c) shx (line m ρ c) ∗ xAny c (yy c)) ⊢ iprop(|={Set.univ}=> doneAll c (yy c)) := by
  unfold SPost
  simp only [val_zero, org_zero, on_true]
  obtain ⟨a1, a3, a4, a5⟩ := off_own c
  iintro ⟨#Hrec, ⟨A1, A3, A4, A5⟩, ⟨Z0, Y0⟩, ⟨Z2, Y2⟩, Y, X⟩
  imod (close_off m ρ K 1 (yy c) a1) $$ [A1] with Z1
  · isplitr; · iexact Hrec
    iexact A1
  imod (close_off m ρ K 3 (yy c) a3) $$ [A3] with Z3
  · isplitr; · iexact Hrec
    iexact A3
  imod (close_off m ρ K 4 (yy c) a4) $$ [A4] with Z4
  · isplitr; · iexact Hrec
    iexact A4
  imod (close_off m ρ K 5 (yy c) a5) $$ [A5] with Z5
  · isplitr; · iexact Hrec
    iexact A5
  imodintro
  unfold doneAll zeroAll
  isplitl [Z0 Z1 Z2 Z3 Z4 Z5]
  · iapply (six_arrays true _).2
    isplitl [Z0]; · iexact Z0
    isplitl [Z1]; · iexact Z1
    isplitl [Z2]; · iexact Z2
    isplitl [Z3]; · iexact Z3
    isplitl [Z4]; · iexact Z4
    iexact Z5
  isplitl [Y0 Y2 Y]
  · iapply (shares_any true c _ _)
    isplitl [Y0]; · iexact Y0
    isplitl [Y2]; · iexact Y2
    iexact Y
  · iexact X

end Cert.GatherProof
-- ==== Proof.PartSeven.lean ====
/-
  The barrier.
-/
module

public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)
variable {c : Dev nD}

theorem bduty_mem : ∀ (r : Bool) (c : Dev nD), fwd (!r) c = true → bduty r ∈ barDuties (bk r c) := by decide
theorem zero_mem : ∀ c, (0 : Fin 3) ∈ barDuties c := by decide
theorem barPay_bduty (r : Bool) (e : Dev nD) : (barPay e (bduty r) : sProp 𝕄) = barPayY r e := by cases r <;> rfl

/-- The number of signals the barrier cell of `c` takes. -/
def nbar (c : Dev nD) : ℕ := if fwd true c && fwd false c then 3 else 2

section
variable {α : Type}

/-- A signal to the barrier of `e`, discharging duty `d` there. -/
theorem wp_sig {Q : α → sProp 𝕄} (e : Dev nD) (d : Fin 3) (hd : d ∈ barDuties e) (O : CellTallies nD τ sig Unit) {n : Dev nD} (hn : n = e)
    {B : Prog (TpuEff nD τ sig (Elt F) Λ₀ .tc) α} :
    records m ρ K ⊢ iprop(owesX c (O + tallyAt (barCell e) () 1) -∗ dutyTok ER (barCell e) 0 d -∗ barPay e d
      -∗ (owesX c O -∗ WP F c B Q) -∗ WP F c (semSignalWord n barS 1#32 >>= fun _ => B) Q) := by
  subst hn
  rw [show (semSignalWord n barS 1#32 >>= fun _ => B : Prog (TpuEff nD τ sig (Elt F) Λ₀ .tc) α) = .op (.semSignal ((n : Dev nD) : Thread nD τ) barS (1#32 : BitVec 32).toInt.toNat) (fun _ => B) from rfl]
  unfold owesX
  iintro #Hrec ⟨%W, HO⟩ Ht Hp Hk
  ihave #HI := (rec_bar m ρ K n) $$ Hrec
  ihave #Hr := (rec_barReached m ρ K n) $$ Hrec
  iapply (Rounds.wp_signal 𝒱₀ ER (sched m ρ) (c : Thread nD τ) none (dst := (n : Thread nD τ)) (κ := K (n, 0))
      (d := d) (by rw [duties_bar]; exact hd) ((amount_bar m ρ n d).trans (by decide)) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The signal to a neighbour along y, where there is one. -/
theorem wp_sigGuard {Q : α → sProp 𝕄} (r b : Bool) (hb : fwd (!r) c = b) (O : CellTallies nD τ sig Unit) {p : BitVec 1} {n : ℕ}
    (hp : (p = 1#1 ↔ b = true) ∧ (p = 1#1 → n = (bk r c).val)) {hn : p = 1#1 → n < nD} {B : Prog (TpuEff nD τ sig (Elt F) Λ₀ .tc) α} :
    records m ρ K ⊢ iprop(owesX c (O + sigDue r c) -∗ on b (dutyTok ER (barCell (bk r c)) 0 (bduty r)) -∗ on b (barPayY r (bk r c))
      -∗ (owesX c O -∗ WP F c B Q)
      -∗ WP F c (dite (p = 1#1) (fun h => semSignalWord (⟨n, hn h⟩ : Dev nD) barS 1#32 >>= fun _ => B) (fun _ => B)) Q) := by
  subst hb
  refine curry3 (wp_guard (fun h => ?_) (fun h => ?_))
  · have hf := hp.1.mp h
    unfold sigDue due
    rw [hf, on_true, on_true, if_pos rfl, ← barPay_bduty]
    iintro ⟨#Hrec, HO, Ht, Hp⟩ Hk
    iapply (wp_sig m ρ K (bk r c) (bduty r) (bduty_mem r c hf) O (dev_at (hp.2 h) (hn h))) $$ Hrec HO Ht Hp Hk
  · have hf : fwd (!r) c = false := Bool.eq_false_iff.mpr fun hf => h (hp.1.mpr hf)
    unfold sigDue due
    rw [hf]
    simp only [Bool.false_eq_true, if_false, add_zero]
    iintro ⟨-, HO, -⟩
    imodintro
    iexact HO

/-- The wait on the barrier: the slots of the peer and of the neighbours that this device will write. -/
theorem wp_barWait {Q : α → sProp 𝕄} (w : BitVec 32) (hw : w.toInt = (nbar c : ℤ)) {O : CellTallies nD τ sig Unit} (hO : Above 1 O)
    {B : Prog (TpuEff nD τ sig (Elt F) Λ₀ .tc) α} :
    records m ρ K ⊢ iprop(owesX c O -∗ cred (tallyAt (barCell c) () (nbar c)) -∗ atPos ER (barCell c) 0 ∅ 0
      -∗ ((owesX c O ∗ semVal (barCell c) 0 ∗ barPayX c ∗ on (fwd false c) (barPayY false c) ∗ on (fwd true c) (barPayY true c)) -∗ WP F c B Q)
      -∗ WP F c (semWaitWord barS w >>= fun _ => B) Q) := by
  rw [show (semWaitWord barS w >>= fun _ => B : Prog (TpuEff nD τ sig (Elt F) Λ₀ .tc) α) = .op (.semWait barS w.toInt) (fun _ => B) from rfl, hw]
  have hM := mayWait_rec m ρ K c (.reg barS) 1 (by dsimp only [lv]; decide) O hO
  unfold owesX
  iintro #Hrec ⟨%W, HO⟩ Hc Hat Hk
  ihave #HI := (rec_bar m ρ K c) $$ Hrec
  iapply (Rounds.wp_wait_rest_token 𝒱₀ ER (sched m ρ) (c : Thread nD τ) none (κ := K (c, 0))
      (wpE_semWait_eq 𝒱₀ (c : Thread nD τ) none Set.univ) (Set.mem_univ _) () (O := O) (W := W) (R := 0) (m := 0) (T := ∅)
      (by rw [expect_bar, Nat.zero_add]; rfl)) $$ [Hc HO Hat]
  · isplitr; · iexact HI
    isplitl [Hc]; · iexact Hc
    isplitl [HO]; · iexact HO
    isplitr
    · iapply hM; iexact Hrec
    iexact Hat
  iintro ⟨HO, Hat, -, Hpay⟩
  ihave Hpay := (Entails.of_eq (rest_bar m ρ c)) $$ Hpay
  imod (Rounds.cell_close ER (sched m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hpay

theorem wp_take {Q : α → sProp 𝕄} {p : Prop} [Decidable p] (h : p) {A : p → Prog (TpuEff nD τ sig (Elt F) Λ₀ .tc) α}
    {B : ¬p → Prog (TpuEff nD τ sig (Elt F) Λ₀ .tc) α} : WP F c (A h) Q ⊢ WP F c (dite p A B) Q := by
  rw [dif_pos h]
theorem wp_skip {Q : α → sProp 𝕄} {p : Prop} [Decidable p] (h : ¬p) {A : p → Prog (TpuEff nD τ sig (Elt F) Λ₀ .tc) α}
    {B : ¬p → Prog (TpuEff nD τ sig (Elt F) Λ₀ .tc) α} : WP F c (B h) Q ⊢ WP F c (dite p A B) Q := by
  rw [dif_neg h]

/-- The two guarded waits on the barrier: exactly one runs. -/
theorem wp_barGuards {Q : α → sProp 𝕄} {O : CellTallies nD τ sig Unit} (hO : Above 1 O) {p₃ p₂ : BitVec 1} (h₃ : p₃ = 1#1 ↔ (fwd true c && fwd false c) = true)
    (h₂ : p₂ = 1#1 ↔ (fwd true c && fwd false c) = false) {B : Prog (TpuEff nD τ sig (Elt F) Λ₀ .tc) α} :
    records m ρ K ⊢ iprop(owesX c O -∗ cred (tallyAt (barCell c) () (nbar c)) -∗ atPos ER (barCell c) 0 ∅ 0
      -∗ ((owesX c O ∗ semVal (barCell c) 0 ∗ barPayX c ∗ on (fwd false c) (barPayY false c) ∗ on (fwd true c) (barPayY true c)) -∗ WP F c B Q)
      -∗ WP F c (dite (p₃ = 1#1)
          (fun _ => semWaitWord barS 3#32 >>= fun _ => dite (p₂ = 1#1) (fun _ => semWaitWord barS 2#32 >>= fun _ => B) (fun _ => B))
          (fun _ => dite (p₂ = 1#1) (fun _ => semWaitWord barS 2#32 >>= fun _ => B) (fun _ => B))) Q) := by
  by_cases hb : (fwd true c && fwd false c) = true
  · rw [dif_pos (h₃.mpr hb), dif_neg fun h => Bool.noConfusion ((h₂.mp h).symm.trans hb)]
    exact wp_barWait m ρ K 3#32 (by unfold nbar; rw [if_pos hb]; decide) hO
  · rw [dif_neg fun h => hb (h₃.mp h), dif_pos (h₂.mpr (Bool.eq_false_iff.mpr hb))]
    exact wp_barWait m ρ K 2#32 (by unfold nbar; rw [if_neg hb]; decide) hO

end

variable {h0 : aM.IsWhole} {h1 : oM.IsWhole} {h2 : yM.IsWhole} {h3 : xM.IsWhole}

set_option maxHeartbeats 0 in
/-- The barrier: the peer and the neighbours along y are told that this device's slots may be written, and tell the same. -/
theorem part7_spec {Q : (Σ' (_ : Dev nD) (_ : BitVec 32) (_ : BitVec 32) (_ : BitVec 32) (_ : BitVec 32), BitVec 32) → sProp 𝕄} :
    iprop(records m ρ K ∗ owesX c (O₀ c) ∗ dutyTok ER (barCell (peer c)) 0 0 ∗ barPay (peer c) 0
        ∗ on (fwd false c) (dutyTok ER (barCell (bk true c)) 0 (bduty true)) ∗ on (fwd false c) (barPayY true (bk true c))
        ∗ on (fwd true c) (dutyTok ER (barCell (bk false c)) 0 (bduty false)) ∗ on (fwd true c) (barPayY false (bk false c))
        ∗ cred (tallyAt (barCell c) () (nbar c)) ∗ atPos ER (barCell c) 0 ∅ 0)
      ⊢ iprop((∀ v2 v5 v8 v9 v31, (owesX c (O₁ c) ∗ semVal (barCell c) 0 ∗ barPayX c ∗ on (fwd false c) (barPayY false c) ∗ on (fwd true c) (barPayY true c))
            -∗ Q ⟨c, v2, v5, v8, v9, v31⟩)
          -∗ WP F c (k0_part7 aM h0 oM h1 yM h2 xM h3 cc0_scratch2 cc0_scratch3 cc0_scratch4 cc0_scratch5 cc0_scratch6 cc0_scratch7) Q) := by
  rw [k0_part7_eq_skeleton]
  unfold k0_part7_skel O₀
  rw [show due true (barCell (peer c)) 1 = tallyAt (barCell (peer c)) () 1 from rfl]
  rw [wp_lift]
  simp only [wp_deviceId]
  iintro ⟨#Hrec, HO, TP, PP, TD, PD, TU, PU, Hc, Hat⟩ Hk
  iapply (wp_sig m ρ K (peer c) 0 (zero_mem _) _ (dev_at (dev1 c) _)) $$ Hrec HO TP PP
  iintro HO
  iapply (wp_sigGuard m ρ K true (fwd false c) rfl _ (sig_down c)) $$ Hrec HO TD PD
  iintro HO
  iapply (wp_sigGuard m ρ K false (fwd true c) rfl _ (sig_up c)) $$ Hrec HO TU PU
  iintro HO
  iapply (wp_barGuards m ρ K (above_O₁ 1 c (by decide)) (bar_three c) (bar_two c)) $$ Hrec HO Hc Hat
  iintro H
  iapply (wp_done (F := F) (c := c))
  iapply Hk
  iexact H

end Cert.GatherProof
-- ==== Proof.PartEight.lean ====
/-
  A device's own block, the first sends, and the first landings along y.
-/
module

public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)
variable {c : Dev nD}

/-- The argument's buffer. -/
def aPts (c : Dev nD) : sProp 𝕄 := iprop(((c : Thread nD τ).loc cc0_stg0_0) ↦{fullShare} xstg m ρ c)

theorem own_ok : ∀ (r : Bool) (c : Dev nD), slotOK r (yy c) c = true := by decide

section
variable {α : Type}

/-- A load of a device's own half block; -/
theorem wp_loadHalf {Q : α → sProp 𝕄} {off : Fin 2 → ℕ} (h : off = ![(xx c).val * 256, 0]) {inb} {hl}
    {k : Vec F S256x512 .bf16 → Prog (TpuEff nD τ sig (Elt F) Λ₀ .tc) α} :
    aPts m ρ c ⊢ iprop((aPts m ρ c -∗ WP F c (k (ownHalf m ρ c)) Q)
      -∗ WP F c (Prog.lift (.load aM (Rect.unit (s := S512x512) off S256x512.size inb).toLoadRect hl) >>= k) Q) := by
  subst h
  exact wp_load_rect 𝒱₀ (c : Thread nD τ) none Set.univ (m := aM) (r := ownR (xx c)) (Finset.subset_univ _)

/-- of its whole block. -/
theorem wp_loadAll {Q : α → sProp 𝕄} {inb} {hl} {k : Vec F S512x512 .bf16 → Prog (TpuEff nD τ sig (Elt F) Λ₀ .tc) α} :
    aPts m ρ c ⊢ iprop((aPts m ρ c -∗ WP F c (k (xstg m ρ c)) Q)
      -∗ WP F c (Prog.lift (.load aM (Rect.unit (s := S512x512) ![0, 0] S512x512.size inb).toLoadRect hl) >>= k) Q) := by
  rw [show WP F c (k (xstg m ρ c)) Q = WP F c (k ((aM.access (Rect.unit (s := S512x512) ![0, 0] S512x512.size inb)).read (Elt F) (xstg m ρ c))) Q from by
    rw [read_whole]]
  exact wp_load_rect 𝒱₀ (c : Thread nD τ) none Set.univ (m := aM) (r := Rect.unit (s := S512x512) ![0, 0] S512x512.size inb) (Finset.subset_univ _)

/-- The store of a device's own half block in its slot. -/
theorem wp_storeOwn {Q : α → sProp 𝕄} {off : Fin 3 → ℕ} (h : off = ![(yy c).val, 0, 0]) {inb} {w : Vec F S1x256x512 .bf16} (hw : w = k0_pay7 (ownHalf m ρ c))
    {hx hm} {k : PUnit → Prog (TpuEff nD τ sig (Elt F) Λ₀ .tc) α} (f : (cc0_scratch0 : Ref sig .tc).ty.Contents (Elt F)) :
    yPts c (yy c) fullShare f ⊢ iprop((yPts c (yy c) fullShare (line m ρ c) -∗ WP F c (k ⟨⟩) Q)
      -∗ WP F c (Prog.lift (.store yM (Rect.unit (s := S4x256x512) off S1x256x512.size inb) w Finset.univ hx hm) >>= k) Q) := by
  subst h
  rw [← own_slot m ρ c f w hw]
  exact wp_store 𝒱₀ (c : Thread nD τ) none Set.univ (m := yM) (r := slotR (yy c)) (f := f) (S := (yS (yy c)).view.set) (y_access_set (yy c)).subset

/-- The store of a device's own block in the result. -/
theorem wp_storeBlock {Q : α → sProp 𝕄} {off : Fin 2 → ℕ} (h : off = ![(yy c).val * 512, 0]) {inb} {w : Vec F S512x512 .bf16} (hw : w = xstg m ρ c)
    {hx hm} {k : PUnit → Prog (TpuEff nD τ sig (Elt F) Λ₀ .tc) α} :
    outS m ρ c (fun _ => false) ⊢ iprop((outS m ρ c (ownD c) -∗ WP F c (k ⟨⟩) Q)
      -∗ WP F c (Prog.lift (.store oM (Rect.unit (s := S2048x512) off S512x512.size inb) w Finset.univ hx hm) >>= k) Q) := by
  subst h hw
  rw [wp_lift]
  unfold outS
  iintro ⟨%f, %hf, H⟩ Hk
  iapply (wp_store 𝒱₀ (c : Thread nD τ) none Set.univ (m := oM) (r := ownO (yy c)) (S := Finset.univ) (f := f) (Finset.subset_univ _)) $$ H
  iintro H
  iapply Hk
  iexists _; isplitr
  · ipureintro; exact fun i hi => write_own m ρ c f i hi
  iexact H

/-- The first send of a device's own half block in direction `r`, at the printed words. -/
theorem wp_start {Q : α → sProp 𝕄} (r : Bool) (O : CellTallies nD τ sig Unit)
    {p : BitVec 1} {s1 : Fin 1 → ℕ} {m1 : Fin 3 → ℕ} {n : ℕ} (hS : StartForm r c p s1 m1 n)
    {i₁ : p = 1#1 → ∀ a, s1 a + S1.size a ≤ S4.size a} {j₁ : p = 1#1 → ∀ a, m1 a + S1x256x512.size a ≤ S4x256x512.size a} {hn : p = 1#1 → n < nD}
    {hsc : ∀ h : p = 1#1, (yA m1 (j₁ h)).view.ref.isScScratch = false} {w₁ : ∀ h : p = 1#1, (yA m1 (j₁ h)).view.WordExact}
    {ht : ∀ h : p = 1#1, DmaTarget.Typed .vmem (.dma (semA (qr r) s1 (i₁ h))) (.remote (Dev.tc (⟨n, hn h⟩ : Dev nD) : Thread nD τ) (yA m1 (j₁ h)) (.dma (semA (qs r) s1 (i₁ h))) (hsc h))}
    {B : Prog (TpuEff nD τ sig (Elt F) Λ₀ .tc) α} :
    records m ρ K ⊢ iprop(owesX c (O + sendDue r true (yy c) c) -∗ yPts c (yy c) (shr r) (line m ρ c) -∗ on (fwd r c) (sendToks r (yy c) c)
      -∗ ((owesX c O ∗ sendSt m ρ r (yy c) c) -∗ WP F c B Q)
      -∗ WP F c (dite (p = 1#1) (fun h => Prog.lift (.enqueueDma (yA m1 (j₁ h)) (.remote (Dev.tc (⟨n, hn h⟩ : Dev nD) : Thread nD τ) (yA m1 (j₁ h)) (.dma (semA (qs r) s1 (i₁ h))) (hsc h))
              (.dma (semA (qr r) s1 (i₁ h))) (w₁ h) (w₁ h) (ht h)) >>= fun _ => B) (fun _ => B)) Q) :=
  curry3 <| wp_forward m ρ K r (yy c) (own_ok r c) O hS.1 (src := fun h => yA m1 (j₁ h)) (fun h => y_at (hS.2 h).2.1 (j₁ h)) (dst := fun h => yA m1 (j₁ h))
    (fun h => y_at (hS.2 h).2.1 (j₁ h)) (n := fun h => ⟨n, hn h⟩) (fun h => dev_at (hS.2 h).2.2 (hn h)) (s₁ := fun h => semA (qs r) s1 (i₁ h)) (s₂ := fun h => semA (qr r) s1 (i₁ h))
    (fun h => sem_at (hS.2 h).1 (i₁ h)) (fun h => sem_at (hS.2 h).1 (i₁ h)) (hsc := hsc) (w₁ := w₁) (w₂ := w₁) (ht := ht) (B := B)

end

variable {h0 : aM.IsWhole} {h1 : oM.IsWhole} {h2 : yM.IsWhole} {h3 : xM.IsWhole}

set_option maxHeartbeats 0 in
/-- The copies of a device's own block, the first sends, and the first landings along y. -/
theorem part8_spec {Q : (Σ' (_ : BitVec 32) (_ : BitVec 32) (_ : BitVec 32) (_ : BitVec 32), BitVec 32) → sProp 𝕄} (v2 v5 v8 v9 v31 : BitVec 32) :
    iprop(records m ρ K ∗ owesX c (O₁ c) ∗ aPts m ρ c ∗ outS m ρ c (fun _ => false) ∗ yAny c (yy c)
        ∗ on (fwd true c) (sendToks true (yy c) c) ∗ on (fwd false c) (sendToks false (yy c) c) ∗ LPre true 1 c ∗ LPre false 1 c)
      ⊢ iprop((∀ x, (owesX c (owe c [(true, 2), (false, 2), (true, 3), (false, 3)]) ∗ aPts m ρ c
            ∗ outS m ρ c (dY c false 1 (dY c true 1 (ownD c))) ∗ sendSt m ρ true (yy c) c ∗ sendSt m ρ false (yy c) c
            ∗ yPts c (yy c) shx (line m ρ c) ∗ LPost m ρ true 1 c ∗ LPost m ρ false 1 c) -∗ Q x)
          -∗ WP F c (k0_part8 aM h0 oM h1 yM h2 xM h3 cc0_scratch2 cc0_scratch3 cc0_scratch4 cc0_scratch5 cc0_scratch6 cc0_scratch7
              c v2 v5 v8 v9 v31) Q) := by
  rw [k0_part8_eq_skeleton]
  unfold k0_part8_skel O₁ LL yAny
  obtain ⟨ha, hy, ho⟩ := own_offs c
  iintro ⟨#Hrec, HO, Ha, Ho, ⟨%g, Hy⟩, TR, TL, HR1, HL1⟩ Hk
  iapply (wp_loadHalf m ρ ha) $$ Ha
  iintro Ha
  iapply (wp_loadY (yy c) hy fullShare g) $$ Hy
  iintro Hy
  iapply (wp_storeOwn m ρ hy rfl g) $$ Hy
  iintro Hy
  ihave Hy := (show yPts c (yy c) fullShare (line m ρ c)
    ⊢ iprop(yPts c (yy c) (shr true) (line m ρ c) ∗ yPts c (yy c) (shr false) (line m ρ c) ∗ yPts c (yy c) shx (line m ρ c)) from
      y_shares_at true c (yy c) (line m ρ c)) $$ Hy
  icases Hy with ⟨YR, YL, YX⟩
  iapply (wp_start m ρ K true _ (start_R c)) $$ Hrec HO YR TR
  iintro ⟨HO, YR⟩
  iapply (wp_start m ρ K false _ (start_L c)) $$ Hrec HO YL TL
  iintro ⟨HO, YL⟩
  iapply (wp_loadAll m ρ) $$ Ha
  iintro Ha
  iapply (wp_loadOut m ρ _ (fun _ => rfl)) $$ Ho
  iintro Ho
  iapply (wp_storeBlock m ρ ho (shapeCast_self _ _)) $$ Ho
  iintro Ho
  iapply (wp_land m ρ K true 1 (by decide) [(false, 1), (true, 2), (false, 2), (true, 3), (false, 3)] _ (land_R1 c) (part1_spec m ρ K) (fun _ _ _ => ⟨_, _, _, _, _, rfl⟩)) $$ Hrec HO Ho HR1
  iintro ⟨HO, Ho, HR1⟩
  iapply (wp_land m ρ K false 1 (by decide) [(true, 2), (false, 2), (true, 3), (false, 3)] _ (land_L1 c) (part2_spec m ρ K) (fun _ _ _ => ⟨_, _, _, _, _, rfl⟩)) $$ Hrec HO Ho HL1
  iintro ⟨HO, Ho, HL1⟩
  iapply (wp_done (F := F) (c := c))
  iapply Hk
  iframe

end Cert.GatherProof
-- ==== Proof.PartNine.lean ====
/-
  The second and third landings along y, and the first ones from the peer.
-/
module

public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)
variable {c : Dev nD} {h0 : aM.IsWhole} {h1 : oM.IsWhole} {h2 : yM.IsWhole} {h3 : xM.IsWhole}

set_option maxHeartbeats 0 in
/-- The second and third landings along y, and the first two from the peer, in both directions. -/
theorem part9_spec {Q : (Σ' (_ : BitVec 32), BitVec 32) → sProp 𝕄} (v2 v5 v8 v9 v31 v32 v60 v61 v63 c0 : BitVec 32) (D : Fin 8 → Bool) :
    iprop(records m ρ K ∗ owesX c (owe c [(true, 2), (false, 2), (true, 3), (false, 3)]) ∗ outS m ρ c D ∗ LPre true 2 c ∗ LPre false 2 c ∗ LPre true 3 c ∗ LPre false 3 c
        ∗ XPre true 1 c ∗ XPre false 1 c ∗ XPre true 2 c ∗ XPre false 2 c)
      ⊢ iprop((∀ x, (owesX c (owe c [])
            ∗ outS m ρ c (dX c false 2 (dX c true 2 (dX c false 1 (dX c true 1 (dY c false 3 (dY c true 3 (dY c false 2 (dY c true 2 D))))))))
            ∗ LPost m ρ true 2 c ∗ LPost m ρ false 2 c ∗ LPost m ρ true 3 c ∗ LPost m ρ false 3 c
            ∗ XPost m ρ true 1 c ∗ XPost m ρ false 1 c ∗ XPost m ρ true 2 c ∗ XPost m ρ false 2 c) -∗ Q x)
          -∗ WP F c (k0_part9 aM h0 oM h1 yM h2 xM h3 cc0_scratch2 cc0_scratch3 cc0_scratch4 cc0_scratch5 cc0_scratch6 cc0_scratch7
              c v2 v5 v8 v9 v31 v32 v60 v61 v63 c0) Q) := by
  rw [k0_part9_eq_skeleton]
  unfold k0_part9_skel
  iintro ⟨#Hrec, HO, Hout, HR2, HL2, HR3, HL3, XR1, XL1, XR2, XL2⟩ Hk
  iapply (wp_land m ρ K true 2 (by decide) [(false, 2), (true, 3), (false, 3)] D (land_R2 c) (part3_spec m ρ K) (fun _ _ _ => ⟨_, _, _, _, _, rfl⟩)) $$ Hrec HO Hout HR2
  iintro ⟨HO, Hout, HR2⟩
  iapply (wp_land m ρ K false 2 (by decide) [(true, 3), (false, 3)] _ (land_L2 c) (part4_spec m ρ K) (fun _ _ _ => ⟨_, _, _, _, _, rfl⟩)) $$ Hrec HO Hout HL2
  iintro ⟨HO, Hout, HL2⟩
  iapply (wp_land m ρ K true 3 (by decide) [(false, 3)] _ (land_R3 c) (part5_spec m ρ K) (fun _ _ _ => ⟨_, _, _, _, _, rfl⟩)) $$ Hrec HO Hout HR3
  iintro ⟨HO, Hout, HR3⟩
  iapply (wp_land m ρ K false 3 (by decide) [] _ (land_L3 c) (part6_spec m ρ K) (fun _ _ _ => ⟨_, _, _, _, _, rfl⟩)) $$ Hrec HO Hout HL3
  iintro ⟨HO, Hout, HL3⟩
  iapply (wp_xland m ρ K true 1 (by decide) _ (xland_R1 c)) $$ Hrec HO Hout XR1
  iintro ⟨HO, Hout, XR1⟩
  iapply (wp_xland m ρ K false 1 (by decide) _ (xland_L1 c)) $$ Hrec HO Hout XL1
  iintro ⟨HO, Hout, XL1⟩
  iapply (wp_xland m ρ K true 2 (by decide) _ (xland_R2 c)) $$ Hrec HO Hout XR2
  iintro ⟨HO, Hout, XR2⟩
  iapply (wp_xland m ρ K false 2 (by decide) _ (xland_L2 c)) $$ Hrec HO Hout XL2
  iintro ⟨HO, Hout, XL2⟩
  iapply (wp_done (F := F) (c := c))
  iapply Hk
  iframe

end Cert.GatherProof
-- ==== Proof.PartTen.lean ====
/-
  The last landings from the peer, and the waits for sends to complete.
-/
module

public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)
variable {c : Dev nD} {h0 : aM.IsWhole} {h1 : oM.IsWhole} {h2 : yM.IsWhole} {h3 : xM.IsWhole}

set_option maxHeartbeats 0 in
/-- The last landings from the peer, and the waits for a device's own sends. -/
theorem part10_spec {Q : (Σ' (_ : BitVec 32) (_ : BitVec 32), BitVec 32) → sProp 𝕄} (v5 v8 v9 v32 v92 v93 : BitVec 32) (D : Fin 8 → Bool) :
    iprop(records m ρ K ∗ owesX c (owe c []) ∗ outS m ρ c D ∗ XPre true 3 c ∗ XPre false 3 c ∗ SPre m ρ true 0 c ∗ SPre m ρ false 0 c)
      ⊢ iprop((∀ x, (owesX c (owe c []) ∗ outS m ρ c (dX c false 3 (dX c true 3 D))
            ∗ XPost m ρ true 3 c ∗ XPost m ρ false 3 c ∗ SPost m ρ true 0 c ∗ SPost m ρ false 0 c) -∗ Q x)
          -∗ WP F c (k0_part10 aM h0 oM h1 yM h2 xM h3 cc0_scratch2 cc0_scratch3 cc0_scratch4 cc0_scratch5 cc0_scratch6 cc0_scratch7 c v5 v8 v9 v32 v92 v93) Q) := by
  rw [k0_part10_eq_skeleton]
  unfold k0_part10_skel
  iintro ⟨#Hrec, HO, Hout, XR3, XL3, SR0, SL0⟩ Hk
  iapply (wp_xland m ρ K true 3 (by decide) _ (xland_R3 c)) $$ Hrec HO Hout XR3
  iintro ⟨HO, Hout, XR3⟩
  iapply (wp_xland m ρ K false 3 (by decide) _ (xland_L3 c)) $$ Hrec HO Hout XL3
  iintro ⟨HO, Hout, XL3⟩
  iapply (wp_sWait m ρ K true 0 (wait_R0 c)) $$ Hrec HO SR0
  iintro ⟨HO, SR0⟩
  iapply (wp_sWait m ρ K false 0 (wait_L0 c)) $$ Hrec HO SL0
  iintro ⟨HO, SL0⟩
  iapply (wp_noWait (wait_XR0 c))
  iapply (wp_noWait (wait_XL0 c))
  iapply (wp_done (F := F) (c := c))
  iapply Hk
  iframe

set_option maxHeartbeats 0 in
/-- The waits for the sends at distances one and two. -/
theorem part11_spec {Q : BitVec 1 → sProp 𝕄} (v5 v120 v121 v125 : BitVec 32) :
    iprop(records m ρ K ∗ owesX c (owe c []) ∗ SPre m ρ true 1 c ∗ SPre m ρ false 1 c ∗ WPre true 1 c ∗ WPre false 1 c
        ∗ SPre m ρ true 2 c ∗ SPre m ρ false 2 c ∗ WPre true 2 c)
      ⊢ iprop((∀ x, (owesX c (owe c []) ∗ SPost m ρ true 1 c ∗ SPost m ρ false 1 c ∗ WPost m ρ true 1 c ∗ WPost m ρ false 1 c
            ∗ SPost m ρ true 2 c ∗ SPost m ρ false 2 c ∗ WPost m ρ true 2 c) -∗ Q x)
          -∗ WP F c (k0_part11 aM h0 oM h1 yM h2 xM h3 cc0_scratch2 cc0_scratch3 cc0_scratch4 cc0_scratch5 cc0_scratch6 cc0_scratch7 c v5 v120 v121 v125) Q) := by
  rw [k0_part11_eq_skeleton]
  unfold k0_part11_skel
  iintro ⟨#Hrec, HO, SR1, SL1, WR1, WL1, SR2, SL2, WR2⟩ Hk
  iapply (wp_sWait m ρ K true 1 (wait_R1 c)) $$ Hrec HO SR1
  iintro ⟨HO, SR1⟩
  iapply (wp_sWait m ρ K false 1 (wait_L1 c)) $$ Hrec HO SL1
  iintro ⟨HO, SL1⟩
  iapply (wp_xWait m ρ K true 1 (by decide) (wait_XR1 c)) $$ Hrec HO WR1
  iintro ⟨HO, WR1⟩
  iapply (wp_xWait m ρ K false 1 (by decide) (wait_XL1 c)) $$ Hrec HO WL1
  iintro ⟨HO, WL1⟩
  iapply (wp_sWait m ρ K true 2 (wait_R2 c)) $$ Hrec HO SR2
  iintro ⟨HO, SR2⟩
  iapply (wp_sWait m ρ K false 2 (wait_L2 c)) $$ Hrec HO SL2
  iintro ⟨HO, SL2⟩
  iapply (wp_xWait m ρ K true 2 (by decide) (wait_XR2 c)) $$ Hrec HO WR2
  iintro ⟨HO, WR2⟩
  iapply (wp_done (F := F) (c := c))
  iapply Hk
  iframe

end Cert.GatherProof
-- ==== Proof.Body.lean ====
/-
  The whole body on a device: from what a device holds after the launch to the result, every counter back at zero.
-/
module

public import proofs.«01_k».proof.Proof.Share
public import proofs.«01_k».proof.Proof.PartSeven
public import proofs.«01_k».proof.Proof.PartEight
public import proofs.«01_k».proof.Proof.PartNine
public import proofs.«01_k».proof.Proof.PartTen

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)
variable {α β : Type} {c : Dev nD} {h0 : aM.IsWhole} {h1 : oM.IsWhole} {h2 : yM.IsWhole} {h3 : xM.IsWhole}

/-- A part, then the rest. -/
theorem wp_seq {p : Prog (TpuEff nD τ sig (Elt F) Λ₀ .tc) β} {k : β → Prog (TpuEff nD τ sig (Elt F) Λ₀ .tc) α} {Q : α → sProp 𝕄} :
    WP F c p (fun x => WP F c (k x) Q) ⊢ WP F c (p >>= k) Q := by
  rw [show WP F c (p >>= k) Q = WP F c p (fun x => WP F c (k x) Q) from wp_bind _ _ _ _ _ _]

/-- Every half of the result is stored. -/
theorem all_stored : ∀ c : Dev nD, ∀ k, dX c false 3 (dX c true 3 (dX c false 2 (dX c true 2 (dX c false 1 (dX c true 1
    (dY c false 3 (dY c true 3 (dY c false 2 (dY c true 2 (dY c false 1 (dY c true 1 (ownD c)))))))))))) k = true := by decide

/-- The duties of the three barrier signals a device gives. -/
def tokBar (c : Dev nD) : sProp 𝕄 :=
  iprop(dutyTok ER (barCell (peer c)) 0 0 ∗ dutyTok ER (barCell (bk true c)) 0 (bduty true) ∗ dutyTok ER (barCell (bk false c)) 0 (bduty false))

/-- What the cells give device `c` at launch: its waits, its duties; -/
def ghost (c : Dev nD) : sProp 𝕄 :=
  iprop(atPos ER (barCell c) 0 ∅ 0 ∗ tokBar c ∗ bigSep Finset.univ fun o : Fin 4 => iprop(atAll c o ∗ tokAll c o))
/-- the credits of all its waits. -/
def credAll (c : Dev nD) : sProp 𝕄 := iprop(cred (tallyAt (barCell c) () (nbar c)) ∗ six fun r d => creds r d c)

omit [FloatOps F] in
theorem on_intro (b : Bool) (P : sProp 𝕄) : P ⊢ on b P := by
  cases b
  · rw [on_false]; iintro -; iempintro
  · exact BI.Entails.refl _

omit [FloatOps F] in
/-- What the landings need, from the device's own share of the launch and from the barrier. -/
theorem six_start (c : Dev nD) :
    iprop((six fun r d => atD c r d fun o => iprop(atAll c o ∗ tokAll c o)) ∗ (six fun r d => creds (F := F) r d c) ∗ (six fun r d => atD c r d (xAny (peer c)))
        ∗ six fun r d => on (fwd r c) (atD c r d (yAny (nb r c))))
      ⊢ iprop((six fun r d => LPre r d c) ∗ (six fun r d => XPre r d c) ∗ six fun r d => Keep r d c) := by
  iintro ⟨H1, H2, H3, H4⟩
  ihave H := (six_sep _ _).1 $$ [H3 H4]
  · isplitl [H3]; · iexact H3
    iexact H4
  ihave H := (six_sep _ _).1 $$ [H2 H]
  · isplitl [H2]; · iexact H2
    iexact H
  ihave H := (six_sep _ _).1 $$ [H1 H]
  · isplitl [H1]; · iexact H1
    iexact H
  ihave H := (six_mono fun r d _ => slot_start (F := F) r d c) $$ H
  ihave H := (six_sep _ _).2 $$ H
  icases H with ⟨G1, H⟩
  ihave H := (six_sep _ _).2 $$ H
  icases H with ⟨G2, G3⟩
  isplitl [G1]; · iexact G1
  isplitl [G2]; · iexact G2
  iexact G3

/-- What the waits for the sends need. -/
theorem six_mid (c : Dev nD) : iprop((six fun r d => LPost m ρ r d c) ∗ six fun r d => Keep r d c)
    ⊢ iprop((six fun r d => SPre m ρ r d c) ∗ (six fun r d => WPre r d c) ∗ six fun r d => Rest m ρ r d c) := by
  iintro ⟨H1, H2⟩
  ihave H := (six_sep _ _).1 $$ [H1 H2]
  · isplitl [H1]; · iexact H1
    iexact H2
  ihave H := (six_mono fun r d _ => slot_mid m ρ r d c) $$ H
  ihave H := (six_sep _ _).2 $$ H
  icases H with ⟨G1, H⟩
  ihave H := (six_sep _ _).2 $$ H
  icases H with ⟨G2, G3⟩
  isplitl [G1]; · iexact G1
  isplitl [G2]; · iexact G2
  iexact G3

/-- The slots whole again. -/
theorem six_end (c : Dev nD) : records m ρ K ⊢ iprop((six fun r d => Rest m ρ r d c) -∗ (six fun r d => SPost m ρ r d c) -∗ (six fun r d => WPost m ρ r d c)
    -∗ (six fun r d => XPost m ρ r d c) -∗ |={Set.univ}=> six fun r d => atD c r d (doneAll c)) := by
  iintro #Hrec H1 H2 H3 H4
  ihave H := (six_sep _ _).1 $$ [H3 H4]
  · isplitl [H3]; · iexact H3
    iexact H4
  ihave H := (six_sep _ _).1 $$ [H2 H]
  · isplitl [H2]; · iexact H2
    iexact H
  ihave H := (six_sep _ _).1 $$ [H1 H]
  · isplitl [H1]; · iexact H1
    iexact H
  ihave HR : (six fun _ _ => records m ρ K) $$ []
  · unfold six
    isplitr; · iexact Hrec
    isplitr; · iexact Hrec
    isplitr; · iexact Hrec
    isplitr; · iexact Hrec
    isplitr; · iexact Hrec
    iexact Hrec
  ihave H := (six_sep _ _).1 $$ [HR H]
  · isplitl [HR]; · iexact HR
    iexact H
  ihave H := (six_mono fun r d hd => slot_end m ρ K r d hd c) $$ H
  iapply (six_fupd _)
  iexact H

set_option maxHeartbeats 0 in
/-- The body of device `c`. -/
theorem run_body {Q : PUnit → sProp 𝕄} :
    iprop(records m ρ K ∗ owesX c (O₀ c) ∗ ghost c ∗ credAll c ∗ aPts m ρ c ∗ outS m ρ c (fun _ => false)
        ∗ (bigSep Finset.univ fun o => yAny c o) ∗ bigSep Finset.univ fun o => xAny c o)
      ⊢ iprop(((owesX c (owe c []) ∗ aPts m ρ c ∗ outS m ρ c (fun _ => true) ∗ semVal (barCell c) 0 ∗ bigSep Finset.univ (doneAll c)) -∗ Q ⟨⟩)
          -∗ WP F c (cc0_body aM h0 oM h1 yM h2 xM h3 cc0_scratch2 cc0_scratch3 cc0_scratch4 cc0_scratch5 cc0_scratch6 cc0_scratch7) Q) := by
  rw [cc0_body_eq_skeleton]
  unfold cc0_body_skel ghost credAll tokBar
  have eL : (six fun r d => LPre (F := F) r d c) ⊢ iprop(LPre true 1 c ∗ LPre false 1 c ∗ LPre true 2 c ∗ LPre false 2 c ∗ LPre true 3 c ∗ LPre false 3 c) := BI.Entails.refl _
  have eX : (six fun r d => XPre (F := F) r d c) ⊢ iprop(XPre true 1 c ∗ XPre false 1 c ∗ XPre true 2 c ∗ XPre false 2 c ∗ XPre true 3 c ∗ XPre false 3 c) := BI.Entails.refl _
  have eS : (six fun r d => SPre m ρ r d c) ⊢ iprop(SPre m ρ true 1 c ∗ SPre m ρ false 1 c ∗ SPre m ρ true 2 c ∗ SPre m ρ false 2 c ∗ SPre m ρ true 3 c ∗ SPre m ρ false 3 c) := BI.Entails.refl _
  have eW : (six fun r d => WPre (F := F) r d c) ⊢ iprop(WPre true 1 c ∗ WPre false 1 c ∗ WPre true 2 c ∗ WPre false 2 c ∗ WPre true 3 c ∗ WPre false 3 c) := BI.Entails.refl _
  iintro ⟨#Hrec, HO, ⟨HatB, ⟨TP, TD, TU⟩, Hat⟩, ⟨HcB, Hc⟩, Ha, Hout, Hy, Hx⟩ Hk
  ihave Hy := (give_y c) $$ Hy
  icases Hy with ⟨Hown, PD, PU⟩
  ihave Hx := (give_x c) $$ Hx
  icases Hx with ⟨Hxown, PP⟩
  ihave TD := (on_intro (fwd false c) _) $$ TD
  ihave TU := (on_intro (fwd true c) _) $$ TU
  iapply wp_seq
  iapply (part7_spec m ρ K) $$ [HO TP PP TD PD TU PU HcB HatB]
  · isplitr; · iexact Hrec
    iframe
  iintro %v2 %v5 %v8 %v9 %v31 ⟨HO, HzB, BX, BF, BT⟩
  ihave BX := (take_x c) $$ BX
  ihave BF := (take_y false c) $$ BF
  icases BF with ⟨F0, F1, F2, F3⟩
  ihave BT := (take_y true c) $$ BT
  icases BT with ⟨T0, T1, T2, T3⟩
  ihave BY : (six fun r d => on (fwd r c) (atD c r d (yAny (F := F) (nb r c)))) $$ [F1 F2 F3 T1 T2 T3]
  · unfold six; dsimp only; iframe
  ihave Hat := (by_distance c _).1 $$ Hat
  icases Hat with ⟨⟨Aown, Town⟩, Hat⟩
  unfold atAll
  ihave Aown := (six_arrays true _).1 $$ Aown
  icases Aown with ⟨A0, A1, A2, A3, A4, A5⟩
  ihave Town := (toks_dir true c _) $$ Town
  icases Town with ⟨⟨Ta, Tb⟩, ⟨Tc, Td⟩, -, -⟩
  ihave HT : on (fwd true c) (sendToks (F := F) true (yy c) c) $$ [T0 Ta Tb]
  · cases fwd true c
    · rw [on_false]; iempintro
    · simp only [on_true]; unfold sendToks; iframe
  ihave HF : on (fwd false c) (sendToks (F := F) false (yy c) c) $$ [F0 Tc Td]
  · cases fwd false c
    · rw [on_false]; iempintro
    · simp only [on_true]; unfold sendToks
      isplitl [Tc]; · iexact Tc
      isplitl [Td]; · iexact Td
      iexact F0
  ihave H := (six_start c) $$ [Hat Hc BX BY]
  · isplitl [Hat]; · iexact Hat
    isplitl [Hc]; · iexact Hc
    isplitl [BX]; · iexact BX
    iexact BY
  icases H with ⟨HL, HX, HK⟩
  ihave HL := eL $$ HL
  icases HL with ⟨R1, L1, R2, L2, R3, L3⟩
  ihave HX := eX $$ HX
  icases HX with ⟨XR1, XL1, XR2, XL2, XR3, XL3⟩
  iapply wp_seq
  iapply (part8_spec m ρ K v2 v5 v8 v9 v31) $$ [HO Ha Hout Hown HT HF R1 L1]
  · isplitr; · iexact Hrec
    iframe
  iintro %x ⟨HO, Ha, Hout, ST, SF, Yown, R1, L1⟩
  obtain ⟨v32, v60, v61, v63, c0⟩ := x
  iapply wp_seq
  iapply (part9_spec m ρ K v2 v5 v8 v9 v31 v32 v60 v61 v63 c0 _) $$ [HO Hout R2 L2 R3 L3 XR1 XL1 XR2 XL2]
  · isplitr; · iexact Hrec
    iframe
  iintro %x ⟨HO, Hout, R2, L2, R3, L3, XR1, XL1, XR2, XL2⟩
  obtain ⟨v92, v93⟩ := x
  ihave H := (six_mid m ρ c) $$ [R1 L1 R2 L2 R3 L3 HK]
  · isplitr [HK]
    · unfold six; dsimp only; iframe
    · iexact HK
  icases H with ⟨HS, HW, HR⟩
  ihave HS := eS $$ HS
  icases HS with ⟨SR1, SL1, SR2, SL2, SR3, SL3⟩
  ihave HW := eW $$ HW
  icases HW with ⟨WR1, WL1, WR2, WL2, WR3, WL3⟩
  ihave SR0 : SPre m ρ true 0 c $$ [A0 ST]
  · unfold SPre; rw [val_zero, org_zero, on_true]
    isplitl [A0]; · iexact A0
    iexact ST
  ihave SL0 : SPre m ρ false 0 c $$ [A2 SF]
  · unfold SPre; rw [val_zero, org_zero, on_true]
    isplitl [A2]; · iexact A2
    iexact SF
  iapply wp_seq
  iapply (part10_spec m ρ K v5 v8 v9 v32 v92 v93 _) $$ [HO Hout XR3 XL3 SR0 SL0]
  · isplitr; · iexact Hrec
    iframe
  iintro %x ⟨HO, Hout, XR3, XL3, SR0, SL0⟩
  obtain ⟨v120, v121, v125⟩ := x
  iapply wp_seq
  iapply (part11_spec m ρ K v5 v120 v121 v125) $$ [HO SR1 SL1 WR1 WL1 SR2 SL2 WR2]
  · isplitr; · iexact Hrec
    iframe
  iintro %v156 ⟨HO, SR1, SL1, WR1, WL1, SR2, SL2, WR2⟩
  iapply (wp_xWait m ρ K false 2 (by decide) (wait_XL2 c)) $$ Hrec HO WL2
  iintro ⟨HO, WL2⟩
  iapply (wp_sWait m ρ K true 3 (wait_R3 c)) $$ Hrec HO SR3
  iintro ⟨HO, SR3⟩
  iapply (wp_sWait m ρ K false 3 (wait_L3 c)) $$ Hrec HO SL3
  iintro ⟨HO, SL3⟩
  iapply (wp_xWait m ρ K true 3 (by decide) (wait_XR3 c)) $$ Hrec HO WR3
  iintro ⟨HO, WR3⟩
  iapply (wp_xWait m ρ K false 3 (by decide) (wait_XL3 c)) $$ Hrec HO WL3
  iintro ⟨HO, WL3⟩
  ihave HSP : (six fun r d => SPost m ρ r d c) $$ [SR1 SL1 SR2 SL2 SR3 SL3]
  · unfold six; dsimp only; iframe
  ihave HWP : (six fun r d => WPost m ρ r d c) $$ [WR1 WL1 WR2 WL2 WR3 WL3]
  · unfold six; dsimp only; iframe
  ihave HXP : (six fun r d => XPost m ρ r d c) $$ [XR1 XL1 XR2 XL2 XR3 XL3]
  · unfold six; dsimp only; iframe
  imod (six_end m ρ K c) $$ Hrec HR HSP HWP HXP with Hdone
  imod (own_end m ρ K c) $$ [A1 A3 A4 A5 SR0 SL0 Yown Hxown] with Hdown
  · isplitr; · iexact Hrec
    isplitl [A1 A3 A4 A5]
    · isplitl [A1]; · iexact A1
      isplitl [A3]; · iexact A3
      isplitl [A4]; · iexact A4
      iexact A5
    iframe
  iapply (wp_done (F := F) (c := c))
  iapply Hk
  isplitl [HO]; · iexact HO
  isplitl [Ha]; · iexact Ha
  isplitl [Hout]; · rw [show (fun _ : Fin 8 => true) = _ from (funext (all_stored c)).symm]; iexact Hout
  isplitl [HzB]; · iexact HzB
  iapply (by_distance c _).2
  isplitl [Hdown]; · iexact Hdown
  iexact Hdone

end Cert.GatherProof
-- ==== Proof.Credit.lean ====
/-
  The credits a device holds at launch: what the other devices owe its cells, which is what its own waits need.
-/
module

public import proofs.«01_k».proof.Proof.Body

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One due -/

/-- A bijection of the devices from a map and its inverse. -/
def byInv (f g : Dev nD → Dev nD) (h : ∀ d, g (f d) = d) (h' : ∀ d, f (g d) = d) : Dev nD ≃ Dev nD := ⟨f, g, h, h'⟩

omit [FloatOps F] in
/-- The credit of a due is the credit under the due's condition. -/
theorem cred_due (b : Bool) (g : GSem nD τ sig) (n : ℕ) : (cred (due b g n) : sProp 𝕄) = on b (cred (tallyAt g () n)) := by
  cases b
  · exact cred_zero
  · rfl

omit [FloatOps F] in
/-- Every device `d` owing `f d` one due, device `c` is owed that of the device `g c` that `f` sends to `c`. -/
theorem launch_due (f g : Dev nD → Dev nD) (hgf : ∀ d, g (f d) = d) (hfg : ∀ d, f (g d) = d) (b : Dev nD → Bool) (sm : Dev nD → SemLoc sig)
    (n : ℕ) (c : Dev nD) :
    (Pipeline.launchCred (fun d => due (b d) ((f d : Thread nD τ), sm d) n) c : sProp 𝕄)
      = on (b (g c)) (cred (tallyAt ((c : Thread nD τ), sm (g c)) () n)) := by
  rw [← cred_due]
  refine Pipeline.launchCred_of_sum _ (fun c => due (b (g c)) ((c : Thread nD τ), sm (g c)) n) ?_ ?_ c
  · rw [← Equiv.sum_comp (byInv f g hgf hfg) fun c => due (b (g c)) ((c : Thread nD τ), sm (g c)) n]
    refine Finset.sum_congr rfl fun d _ => ?_
    show _ = due (b (g (f d))) ((f d : Thread nD τ), sm (g (f d))) n
    rw [hgf]
  · intro d k hk
    by_contra h
    apply hk
    cases b (g d)
    · rfl
    · exact tallyAt_ne_cell (fun e => h (congrArg Prod.fst e)) () n

/-! ## The dues of the protocol -/

theorem next_facts : ∀ (r : Bool) (c : Dev nD) (d : Fin 4), d ≠ 3 →
    (val r d (bk r c) && fwd r (bk r c)) = val r (d + 1) c ∧ (val r (d + 1) c = true → org r d (bk r c) = org r (d + 1) c) := by decide
theorem peer_facts : ∀ (r : Bool) (c : Dev nD) (d : Fin 4), val r d (peer c) = val r d c ∧ org r d (peer c) = org r d c := by decide
theorem sig_facts : ∀ (r : Bool) (c : Dev nD), fwd (!r) (nb r c) = fwd r c := by decide
theorem some_next : ∀ c : Dev nD, (fwd true c || fwd false c) = true := by decide

omit [FloatOps F] in
/-- What the device behind sends on from distance `d` is what lands here one further. -/
theorem launch_send (r : Bool) (d n : Fin 4) (hd : d ≠ 3) (hn : d + 1 = n) (c : Dev nD) :
    (Pipeline.launchCred (fun d' => sendDue r (val r d d') (org r d d') d') c : sProp 𝕄)
      = on (val r n c) (cred (tallyAt (cell c (qr r) (org r n c)) () N)) := by
  subst hn
  unfold sendDue cell
  rw [launch_due (nb r) (bk r) (bk_nb r) (nb_bk r) (fun d' => val r d d' && fwd r d') (fun d' => .dma (xs (qr r) (org r d d'))) N c]
  obtain ⟨e, e'⟩ := next_facts r c d hd
  rw [e]
  cases hv : val r (d + 1) c
  · rfl
  · rw [e' hv]

omit [FloatOps F] in
/-- The peer sends the half block it received at distance `d`. -/
theorem launch_peer (r : Bool) (d : Fin 4) (c : Dev nD) :
    (Pipeline.launchCred (fun d' => peerDue r d d') c : sProp 𝕄) = on (val r d c) (cred (tallyAt (cell c 5 (org r d c)) () N)) := by
  unfold peerDue cell
  rw [launch_due peer peer peer_peer peer_peer (fun d' => val r d d') (fun d' => .dma (xs 5 (org r d d'))) N c, (peer_facts r c d).1, (peer_facts r c d).2]

omit [FloatOps F] in
/-- The neighbour in direction `r` signals the barrier. -/
theorem launch_sig (r : Bool) (c : Dev nD) :
    (Pipeline.launchCred (fun d' => sigDue r d') c : sProp 𝕄) = on (fwd r c) (cred (tallyAt (barCell c) () 1)) := by
  unfold sigDue barCell
  rw [launch_due (bk r) (nb r) (nb_bk r) (bk_nb r) (fun d' => fwd (!r) d') (fun _ => .reg barS) 1 c, sig_facts]

omit [FloatOps F] in
/-- The peer signals the barrier. -/
theorem launch_sigPeer (c : Dev nD) :
    (Pipeline.launchCred (fun d' => due true (barCell (peer d')) 1) c : sProp 𝕄) = cred (tallyAt (barCell c) () 1) := by
  unfold barCell
  rw [launch_due peer peer peer_peer peer_peer (fun _ => true) (fun _ => .reg barS) 1 c, on_true]

omit [FloatOps F] in
theorem launch_owe_cons (r : Bool) (d : Fin 4) (l : List (Bool × Fin 4)) (c : Dev nD) :
    (Pipeline.launchCred (fun d' => owe d' ((r, d) :: l)) c : sProp 𝕄)
      = iprop((Pipeline.launchCred (fun d' => owe d' l) c ∗ Pipeline.launchCred (fun d' => peerDue r d d') c)
          ∗ Pipeline.launchCred (fun d' => sendDue r (val r d d') (org r d d') d') c) := by
  rw [← Pipeline.launchCred_add, ← Pipeline.launchCred_add]; rfl

omit [FloatOps F] in
theorem launch_O₀ (c : Dev nD) :
    (Pipeline.launchCred O₀ c : sProp 𝕄)
      = iprop((((((Pipeline.launchCred (fun d' => owe d' LL) c ∗ Pipeline.launchCred (fun d' => sendDue false true (yy d') d') c)
          ∗ Pipeline.launchCred (fun d' => sendDue true true (yy d') d') c) ∗ Pipeline.launchCred (fun d' => sigDue false d') c)
          ∗ Pipeline.launchCred (fun d' => sigDue true d') c) ∗ Pipeline.launchCred (fun d' => due true (barCell (peer d')) 1) c)) := by
  rw [← Pipeline.launchCred_add, ← Pipeline.launchCred_add, ← Pipeline.launchCred_add, ← Pipeline.launchCred_add, ← Pipeline.launchCred_add]; rfl

omit [FloatOps F] in
/-- Two credits of one cell are one. -/
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
/-- The barrier's credit: a unit from the peer and from each neighbour there is. -/
theorem cred_bar (c : Dev nD) :
    iprop(cred (tallyAt (barCell c) () 1) ∗ on (fwd true c) (cred (tallyAt (barCell c) () 1)) ∗ on (fwd false c) (cred (tallyAt (barCell c) () 1)))
      ⊢ (cred (tallyAt (barCell c) () (nbar c)) : sProp 𝕄) := by
  have hs := some_next c
  unfold nbar
  cases ht : fwd true c <;> cases hf : fwd false c
  · rw [ht, hf] at hs; exact absurd hs (by decide)
  · rw [on_false, on_true]
    iintro ⟨H1, -, H2⟩
    iapply (cred_join (F := F) (barCell c) 1 1)
    iframe
  · rw [on_false, on_true]
    iintro ⟨H1, H2, -⟩
    iapply (cred_join (F := F) (barCell c) 1 1)
    iframe
  · rw [on_true]
    iintro ⟨H1, H2, H3⟩
    iapply (cred_join (F := F) (barCell c) 1 2)
    isplitl [H1]; · iexact H1
    iapply (cred_join (F := F) (barCell c) 1 1)
    iframe

omit [FloatOps F] in
/-- A landing's two credits, from the device behind and from the peer. -/
theorem creds_of (r : Bool) (d : Fin 4) (c : Dev nD) :
    iprop(on (val r d c) (cred (tallyAt (cell c (qr r) (org r d c)) () N)) ∗ on (val r d c) (cred (tallyAt (cell c 5 (org r d c)) () N)))
      ⊢ creds (F := F) r d c := by
  unfold creds; rw [on_sep]

omit [FloatOps F] in
/-- The launch deals every device the credits of all its waits. -/
theorem launch_creds (c : Dev nD) : (Pipeline.launchCred O₀ c : sProp 𝕄) ⊢ credAll c := by
  have own (r : Bool) : (Pipeline.launchCred (fun d' => sendDue r true (yy d') d') c : sProp 𝕄)
      = Pipeline.launchCred (fun d' => sendDue r (val r 0 d') (org r 0 d') d') c := by
    congr 1; funext d'; rw [val_zero, org_zero]
  rw [launch_O₀, launch_sigPeer, launch_sig, launch_sig, own, own]
  unfold LL
  rw [launch_owe_cons, launch_owe_cons, launch_owe_cons, launch_owe_cons, launch_owe_cons, launch_owe_cons]
  rw [launch_send true 0 1 (by decide) (by decide), launch_send false 0 1 (by decide) (by decide), launch_send true 1 2 (by decide) (by decide), launch_send false 1 2 (by decide) (by decide),
    launch_send true 2 3 (by decide) (by decide), launch_send false 2 3 (by decide) (by decide),
    launch_peer, launch_peer, launch_peer, launch_peer, launch_peer, launch_peer]
  show _ ⊢ iprop(cred (tallyAt (barCell c) () (nbar c)) ∗ creds true 1 c ∗ creds false 1 c ∗ creds true 2 c ∗ creds false 2 c ∗ creds true 3 c ∗ creds false 3 c)
  iintro ⟨⟨⟨⟨⟨⟨⟨⟨⟨⟨⟨⟨⟨⟨⟨⟨⟨-, Pf3⟩, -⟩, Pt3⟩, -⟩, Pf2⟩, Sf3⟩, Pt2⟩, St3⟩, Pf1⟩, Sf2⟩, Pt1⟩, St2⟩, Sf1⟩, St1⟩, Bf⟩, Bt⟩, Bp⟩
  isplitl [Bp Bt Bf]
  · iapply (cred_bar c); iframe
  isplitl [Pt1 St1]
  · iapply (creds_of true 1 c); iframe
  isplitl [Pf1 Sf1]
  · iapply (creds_of false 1 c); iframe
  isplitl [Pt2 St2]
  · iapply (creds_of true 2 c); iframe
  isplitl [Pf2 Sf2]
  · iapply (creds_of false 2 c); iframe
  isplitl [Pt3 St3]
  · iapply (creds_of true 3 c); iframe
  · iapply (creds_of false 3 c); iframe

end Cert.GatherProof

end
-- ==== Proof.Deal.lean ====
/-
  The launch of the protocol: the cells are set up, their invariants opened for every device, and every device is dealt
  the duties it will discharge on other devices' cells.
-/
module

public import proofs.«01_k».proof.Proof.Credit

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, listed -/

/-- The kernel's own semaphores, by slot and array. -/
def osem (oq : Fin 4 × Fin 6) : SemLoc sig := .dma (xs oq.2 oq.1)

theorem ownSemFacts : Pipeline.OwnSemFacts cfg0.spec osem := by decide

omit [FloatOps F] in
/-- The 25 cells of a device are the barrier's and, slot by slot, those of the six arrays. -/
theorem cells_split (Φ : Fin 25 → sProp 𝕄) :
    bigSep Finset.univ Φ = iprop(Φ 0 ∗ bigSep Finset.univ fun o : Fin 4 => bigSep Finset.univ fun q : Fin 6 => Φ (kq q o)) := by
  rw [← bigSep_univ_prod (fun oq : Fin 4 × Fin 6 => Φ (kq oq.2 oq.1)),
    show (Finset.univ : Finset (Fin 25)) = insert 0 ((Finset.univ : Finset (Fin 4 × Fin 6)).image fun oq => kq oq.2 oq.1) from by decide,
    bigSep_insert (by decide), show ((Finset.univ : Finset (Fin 4 × Fin 6)).image fun oq => kq oq.2 oq.1)
      = Finset.univ.map ⟨fun oq : Fin 4 × Fin 6 => kq oq.2 oq.1, by decide⟩ from by decide, bigSep_map]
  rfl

omit [FloatOps F] in
/-- The same of a family over semaphores. -/
theorem sems_split (Ψ : SemLoc sig → sProp 𝕄) :
    (bigSep Finset.univ fun k : Fin 25 => Ψ (csem k))
      = iprop(Ψ (.reg barS) ∗ bigSep Finset.univ fun o : Fin 4 => bigSep Finset.univ fun q : Fin 6 => Ψ (.dma (xs q o))) := by
  rw [cells_split fun k => Ψ (csem k)]
  have e : ∀ q o, Ψ (csem (kq q o)) = Ψ (.dma (xs q o)) := fun q o => by rw [csem_kq]
  simp only [e]
  rfl

omit [FloatOps F] in
theorem ownSems0_eq (c : Dev nD) :
    (Pipeline.ownSems0 (Ix := Unit) (Name := ℕ) (U := UU) (Lvl := ℕ) (Val := Elt F) (τ := τ) osem c : sProp 𝕄) = bigSep Finset.univ (zeroAll c) := by
  unfold Pipeline.ownSems0 zeroAll; rw [bigSep_univ_prod]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [sems_split fun sm => semVal ((c : Thread nD τ), sm) 0, ownSems0_eq, unscopedSems0_eq]
  unfold zeroAll
  iintro ⟨H, HB⟩
  iframe

/-! ## Minting -/

theorem csem_injective : Function.Injective csem := by decide
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Three duties of every cell (a transfer's cell uses the first only). -/
abbrev tokOf (ckd : (Dev nD × Fin 25) × Fin 3) : GSem nD τ sig × ℕ × Fin 3 := (kcell ckd.1, 0, ckd.2)
theorem tokOf_injective : Function.Injective (tokOf : (Dev nD × Fin 25) × Fin 3 → GSem nD τ sig × ℕ × Fin 3) := by
  rintro ⟨ck, d⟩ ⟨ck', d'⟩ h
  have h1 : ck = ck' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duties of device `c`'s own cells. -/
def toks (c : Dev nD) : sProp 𝕄 := bigSep Finset.univ fun k : Fin 25 => bigSep Finset.univ fun d : Fin 3 => dutyTok ER (kcell (c, k)) 0 d

/-- What the launch element deals device `c`. -/
def G (c : Dev nD) : sProp 𝕄 :=
  iprop((bigSep Finset.univ fun k : Fin 25 => roundState ER (sched m ρ) (kcell (c, k)) 0)
    ∗ (bigSep Finset.univ fun k : Fin 25 => iprop(atPos ER (kcell (c, k)) 0 ∅ 0 ∗ reached ER (kcell (c, k)) 0)) ∗ toks c)

/-- The invariants and marks, before the levels are known. -/
def marks (K : Dev nD × Fin 25 → ℕ) : sProp 𝕄 :=
  iprop((bigSep Finset.univ fun ck : Dev nD × Fin 25 => cellInv ER (sched m ρ) (K ck) (kcell ck))
    ∗ bigSep Finset.univ fun ck : Dev nD × Fin 25 => reached ER (kcell ck) 0)
instance marks_persistent (K : Dev nD × Fin 25 → ℕ) : BI.Persistent (marks m ρ K) := by unfold marks; infer_instance

/-- What the global step makes of it. -/
def G' (c : Dev nD) : sProp 𝕄 := iprop(∃ K, marks m ρ K ∗ ghost c)

omit [FloatOps F] in
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 25 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties -/

/-- The duties of array `q`'s cells of a device. -/
def arrToks (q : Fin 6) (c : Dev nD) : sProp 𝕄 := bigSep Finset.univ fun o : Fin 4 => dutyTok ER (cell c q o) 0 0
/-- The barrier's duty `d`. -/
def barTok (d : Fin 3) (c : Dev nD) : sProp 𝕄 := dutyTok ER (barCell c) 0 d

omit [FloatOps F] in
theorem fin3_eq (Φ : Fin 3 → sProp 𝕄) : bigSep Finset.univ Φ = iprop(Φ 0 ∗ Φ 1 ∗ Φ 2) := bigSep_univ_eq_bigSepL [0, 1, 2] (by decide) (by decide) Φ
omit [FloatOps F] in
theorem fin6_eq (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- Slot by slot and array by array are the same. -/
theorem by_array (Φ : Fin 4 → Fin 6 → sProp 𝕄) :
    (bigSep Finset.univ fun o => bigSep Finset.univ fun q => Φ o q) = bigSep Finset.univ fun q => bigSep Finset.univ fun o => Φ o q := by
  rw [← bigSep_univ_prod (fun oq : Fin 4 × Fin 6 => Φ oq.1 oq.2), ← bigSep_univ_prod (fun qo : Fin 6 × Fin 4 => Φ qo.2 qo.1),
    bigSep_univ_equiv (Equiv.prodComm (Fin 6) (Fin 4))]
  rfl

omit [FloatOps F] in
/-- The duties in use, by kind. -/
theorem toks_kinds (c : Dev nD) :
    toks (F := F) c ⊢ iprop((barTok 0 c ∗ barTok 1 c ∗ barTok 2 c) ∗ arrToks 0 c ∗ arrToks 1 c ∗ arrToks 2 c ∗ arrToks 3 c ∗ arrToks 4 c ∗ arrToks 5 c) := by
  unfold toks
  rw [sems_split fun sm => bigSep Finset.univ fun d : Fin 3 => (dutyTok ER ((c : Thread nD τ), sm) 0 d : sProp 𝕄), by_array, fin3_eq]
  refine BI.sep_mono (BI.Entails.refl _) ?_
  refine BI.Entails.trans (bigSep_mono (Ψ := fun q => arrToks (F := F) q c) fun q _ => ?_) (Entails.of_eq (fin6_eq _))
  unfold arrToks
  exact bigSep_mono fun o _ => bigSep_elim (Finset.mem_univ (0 : Fin 3))

omit [FloatOps F] in
/-- One piece per device, handed on along a bijection. -/
theorem hand_on (f g : Dev nD → Dev nD) (hgf : ∀ d, g (f d) = d) (hfg : ∀ d, f (g d) = d) (Φ : Dev nD → sProp 𝕄) :
    bigSep Finset.univ Φ = bigSep Finset.univ fun c => Φ (f c) := bigSep_univ_equiv (byInv f g hgf hfg) Φ

omit [FloatOps F] in
/-- What one device has after the dealing, regrouped by slot. -/
theorem dealt (c : Dev nD) :
    iprop((barTok 0 (peer c) ∗ barTok 1 (up c) ∗ barTok 2 (down c))
        ∗ arrToks 0 c ∗ arrToks 1 (up c) ∗ arrToks 2 c ∗ arrToks 3 (down c) ∗ arrToks 4 c ∗ arrToks 5 (peer c))
      ⊢ iprop(tokBar (F := F) c ∗ bigSep Finset.univ fun o : Fin 4 => tokAll c o) := by
  have eb : iprop(barTok (F := F) 0 (peer c) ∗ barTok 2 (down c) ∗ barTok 1 (up c)) ⊢ tokBar c := BI.Entails.refl _
  unfold arrToks tokAll
  rw [bigSep_sep', bigSep_sep', bigSep_sep', bigSep_sep', bigSep_sep']
  iintro ⟨⟨B0, B1, B2⟩, H0, H1, H2, H3, H4, H5⟩
  isplitl [B0 B1 B2]
  · iapply eb; iframe
  iframe

omit [FloatOps F] in
/-- Every cell's duties go to the devices that discharge them. -/
theorem toks_around : (bigSep Finset.univ fun c : Dev nD => toks (F := F) c)
    ⊢ bigSep Finset.univ fun c : Dev nD => iprop(tokBar c ∗ bigSep Finset.univ fun o : Fin 4 => tokAll c o) := by
  refine (bigSep_mono fun c _ => toks_kinds c).trans ?_
  refine BI.Entails.trans ?_ (bigSep_mono fun c _ => dealt c)
  simp only [bigSep_sep']
  rw [hand_on peer peer peer_peer peer_peer (barTok 0), hand_on up down down_up up_down (barTok 1), hand_on down up up_down down_up (barTok 2),
    hand_on up down down_up up_down (arrToks 1), hand_on down up up_down down_up (arrToks 3), hand_on peer peer peer_peer peer_peer (arrToks 5)]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's waits and duties, apart from the marks. -/
def share (c : Dev nD) : sProp 𝕄 :=
  iprop((bigSep Finset.univ fun k : Fin 25 => atPos ER (kcell (c, k)) 0 ∅ 0) ∗ tokBar c ∗ bigSep Finset.univ fun o : Fin 4 => tokAll c o)

omit [FloatOps F] in
theorem ghost_intro (K : Dev nD × Fin 25 → ℕ) (c : Dev nD) : iprop(marks m ρ K ∗ share c) ⊢ G' m ρ c := by
  unfold share G' ghost
  rw [sems_split fun sm => (atPos ER ((c : Thread nD τ), sm) 0 ∅ 0 : sProp 𝕄), bigSep_sep']
  iintro ⟨#HM, ⟨HB, Hat⟩, HT, Ht⟩
  iexists K
  isplitr; · iexact HM
  isplitl [HB]; · iexact HB
  isplitl [HT]; · iexact HT
  isplitl [Hat]
  · unfold atAll; iexact Hat
  · iexact Ht

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have es : iprop((bigSep Finset.univ fun c : Dev nD => bigSep Finset.univ fun k : Fin 25 => atPos ER (kcell (c, k)) 0 ∅ 0)
        ∗ bigSep Finset.univ fun c : Dev nD => iprop(tokBar c ∗ bigSep Finset.univ fun o : Fin 4 => tokAll c o))
      ⊢ bigSep Finset.univ fun c : Dev nD => share (F := F) c := by
    unfold share; rw [← bigSep_sep']
  rw [bigSep_sep', bigSep_sep', ← bigSep_univ_prod (fun ck : Dev nD × Fin 25 => iprop(∃ κ : ℕ, cellInv ER (sched m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m ρ) κ (kcell ck) : sProp 𝕄))) $$ HI
  icases HK with ⟨%K, #HI⟩
  ihave Htk := (toks_around (F := F)) $$ Htok
  iapply (with_persistent (R := marks m ρ K) fun c _ => ghost_intro m ρ K c)
  isplitr
  · unfold marks; isplitl; · iexact HI
    iexact HR
  · iapply es
    isplitl [Hat]; · iexact Hat
    iexact Htk

omit [FloatOps F] in
/-- All the devices' cells set up and dealt at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.GatherProof

end
-- ==== Proof.Run.lean ====
/-
  The run: from any memory with zero counters every device's kernel finishes, the result array holds `outAt`, the
  argument is unchanged and every counter is zero.
-/
module

public import proofs.«01_k».proof.Proof.Deal
public import proofs.«01_k».proof.Proof.Gen.KernelIdeal.Points
public import Idealize.ShloMosaic.Lib.Pipeline.CollectiveSegs

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told -/

/-- What a device starts with besides its buffers; -/
def start (c : Dev nD) : sProp 𝕄 := iprop((∃ K, records m ρ K) ∗ ghost c ∗ credAll c)
/-- with its two landing buffers; -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- what it ends with. -/
def Φ₁ (c : Dev nD) : sProp 𝕄 := iprop(semVal (barCell c) 0 ∗ bigSep Finset.univ (doneAll c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

/-! ## The body -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_in (c : Dev nD) (d) : (dats m ρ 0 c).before (0 : Fin 2) t0_0 d = xstg m ρ c := by
  unfold Dat.before; rw [if_pos (fetch0_0 _)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt m ρ c))

theorem owes_open (c : Dev nD) : (dats m ρ 0 c).owesAt () t0_0.castSucc ⊢ owesX c (O₀ c) := by
  unfold Dat.owesAt Pipeline.owesWithin owesX
  iintro ⟨%W, %hW, HO⟩
  iexists W; iexact HO
theorem owes_close (c : Dev nD) : owesX c (owe c []) ⊢ (dats m ρ 0 c).owesAt () t0_0.succ := by
  unfold Dat.owesAt Pipeline.owesWithin owesX
  iintro ⟨%W, HO⟩
  iexists W
  isplitr
  · ipureintro; exact fun _ _ => Or.inl trivial
  · iexact HO

theorem in_open (c : Dev nD) : (iprop(∃ d, stg c cc0_stg0_0 ((dats m ρ 0 c).before (0 : Fin 2) t0_0 d)) : sProp 𝕄) ⊢ aPts m ρ c := by
  iintro ⟨%d, %f, %hf, H⟩
  rw [before_in] at hf
  subst hf
  unfold aPts; iexact H
theorem in_close (c : Dev nD) : aPts m ρ c ⊢ stg c cc0_stg0_0 (xstg m ρ c) := by
  unfold aPts stg
  iintro H
  iexists (xstg m ρ c)
  isplitr
  · ipureintro; rfl
  · iexact H
theorem out_open (c : Dev nD) : (iprop(∃ d, stg c cc0_stg1_0 ((dats m ρ 0 c).before (1 : Fin 2) t0_0 d)) : sProp 𝕄) ⊢ outS m ρ c (fun _ => false) := by
  unfold outS
  iintro ⟨%d, %f, %hf, H⟩
  iexists f
  isplitr
  · ipureintro; exact fun i h => absurd h Bool.false_ne_true
  · iexact H
theorem out_close (c : Dev nD) : outS m ρ c (fun _ => true) ⊢ stg c cc0_stg1_0 (outAt m ρ c) := by
  unfold outS stg
  iintro ⟨%f, %hf, H⟩
  iexists f
  isplitr
  · ipureintro; exact funext fun i => hf i rfl
  · iexact H

omit [FloatOps F] in
theorem y_open (c : Dev nD) : (iprop(∃ f, ((c : Thread nD τ).loc cc0_scratch0) ↦{fullShare} f) : sProp 𝕄) ⊢ bigSep Finset.univ fun o => yAny c o := by
  have h (f : (cc0_scratch0 : Ref sig .tc).ty.Contents (Elt F)) : (((c : Thread nD τ).loc cc0_scratch0) ↦{fullShare} f : sProp 𝕄) ⊢ bigSep Finset.univ fun o => yAny c o := by
    have e (o : Fin 4) : yPts c o fullShare f ⊢ yAny c o := by
      unfold yAny; iintro H; iexists f; iexact H
    rw [y_split]
    exact bigSep_mono fun o _ => e o
  iintro ⟨%f, H⟩
  iapply (h f); iexact H
omit [FloatOps F] in
theorem x_open (c : Dev nD) : (iprop(∃ f, ((c : Thread nD τ).loc cc0_scratch1) ↦{fullShare} f) : sProp 𝕄) ⊢ bigSep Finset.univ fun o => xAny c o := by
  have h (f : (cc0_scratch1 : Ref sig .tc).ty.Contents (Elt F)) : (((c : Thread nD τ).loc cc0_scratch1) ↦{fullShare} f : sProp 𝕄) ⊢ bigSep Finset.univ fun o => xAny c o := by
    have e (o : Fin 4) : xPts c o f ⊢ xAny c o := by
      unfold xAny; iintro H; iexists f; iexact H
    rw [x_split]
    exact bigSep_mono fun o _ => e o
  iintro ⟨%f, H⟩
  iapply (h f); iexact H

set_option maxHeartbeats 800000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP F c
    (cc0_body aM (Memref.isWhole_whole _) oM (Memref.isWhole_whole _) yM (Memref.isWhole_whole _) xM (Memref.isWhole_whole _)
      cc0_scratch2 cc0_scratch3 cc0_scratch4 cc0_scratch5 cc0_scratch6 cc0_scratch7) (fun _ => bodyPost m ρ c)
  unfold bodyPre Φ₀ start
  iintro ⟨⟨⟨⟨%K, Hrec⟩, Hg, Hc⟩, Hy, Hx⟩, Ho, Ha, Hout⟩
  ihave HO := (owes_open m ρ c) $$ Ho
  ihave Ha' := (in_open m ρ c) $$ Ha
  ihave Hout' := (out_open m ρ c) $$ Hout
  ihave Hy' := (y_open c) $$ Hy
  ihave Hx' := (x_open c) $$ Hx
  iapply (run_body m ρ K) $$ [Hrec HO Hg Hc Ha' Hout' Hy' Hx']
  · iframe
  iintro ⟨HO, Ha, Hout, Hb, Hd⟩
  unfold bodyPost Φ₁
  isplitl [Hb Hd]
  · iframe
  isplitl [HO]
  · iapply (owes_close m ρ c); iexact HO
  isplitl [Ha]
  · iapply (in_close m ρ c); iexact Ha
  · iapply (out_close m ρ c); iexact Hout

/-! ## The side conditions of the launch -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G' marks records
  icases HG with ⟨%K, ⟨HI, HR⟩, Hg⟩
  isplitl
  · isplitl [HI HR Hlev]
    · iexists K; iframe
    iframe
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hy, Hx⟩
  iframe

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ doneAll
  rw [bigSep_sep', bigSep_sep']
  iintro ⟨Hb, Hz, Hy, Hx⟩
  isplitl [Hb]; · iexact Hb
  isplitl [Hz]; · iexact Hz
  isplitl [Hy]
  · iapply (y_join c (m ((c : Thread nD τ).loc cc0_scratch0))); iexact Hy
  · iapply (x_join c (m ((c : Thread nD τ).loc cc0_scratch1))); iexact Hx

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (by fin_cases w <;> fin_cases s <;> exact Nat.le_refl 0) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the 32 devices' kernels ends
    with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = m ((c : Thread nD τ).loc main_arg0) :=
  (dats (F := F) m ρ 0 c).arrAt_in (0 : Fin 2) rfl _

/-- The one block of the result array is all of it. -/
theorem flushed_eq (c : Dev nD) (t : Fin cfg0.N) :
    (dats m ρ 0 c).flushed 1 t = ((cfg0.win 1).blk t).view.read (Elt F) (outAt m ρ c) := by
  obtain rfl := fin_N0 t
  have hz : (fun a => win0_1.index t0_0 a * main_v1.ty.shape.size a) = fun _ => 0 := funext fun a => by fin_cases a <;> decide
  exact (Memref.read_access_unit_zero (Elt F) main_v1 hz (fun a => by rw [congrFun hz a]; simp) (outAt m ρ c)).symm

theorem mem_blk (t : Fin cfg0.N) (i : S2048x512.Idx) : i ∈ ((cfg0.win 1).blk t).view.set := by
  show i ∈ ((View.whole main_v1).slice (win0_1.rect t)).set
  rw [View.set_slice_whole, Rect.mem_set_unit]
  have e : ∀ a, win0_1.index t a * win0_1.size a = 0 ∧ win0_1.xsize (grid0.coords t) a = S2048x512.size a := by
    rcases fin_N0 t with rfl; decide +kernel
  intro a
  have ha : (i a).val < S2048x512.size a := (i a).isLt
  show win0_1.index t a * win0_1.size a ≤ (i a).val ∧ (i a).val < win0_1.index t a * win0_1.size a + win0_1.xsize (grid0.coords t) a
  rw [(e a).1, (e a).2]; omega

/-- The result array ends at `outAt`. -/
theorem finalA_out (c : Dev nD) : finalA m ρ c (1 : Fin 2) = outAt m ρ c :=
  (dats (F := F) m ρ 0 c).arrAt_eq_of_cover 1 (outAt m ρ c) (fun t _ => flushed_eq m ρ c t) fun i => ⟨t0_0, flush0_1 _, mem_blk _ i⟩

end Cert.GatherProof

end
-- ==== Proof.Value.lean ====
/-
  The value: when each device's argument is its block of one array, cut along y, every device's result is that array.
-/
module

public import proofs.«01_k».proof.Proof.Run
public import Idealize.ShloMosaic.Lib.Layout

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The fetched block is the whole argument. -/
theorem xstg_eq (c : Dev nD) : xstg m ρ c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) _

/-- The block a device holds of an array cut along y is the one its y coordinate names. -/
theorem block_row : ∀ c : Dev nD, Layout.meshLin [2, 4, 4] c.val [1] = (yy c).val := by decide
/-- Half block `k` of the result is taken from a device of coordinate y = `k / 2`. -/
theorem yy_src : ∀ (c : Dev nD) (k : Fin 8), (yy (srcDev c k)).val = k.val / 2 := by decide

/-- Every device's result is the whole array. -/
theorem outAt_eq (v : S2048x512.Idx → Elt F .bf16)
    (h : ∀ c : Dev nD, m ((c : Thread nD τ).loc main_arg0) = Layout.blockN ⟨2, ![512, 512]⟩ ⟨2, ![2048, 512]⟩ (Layout.meshBlock [2, 4, 4] ![[1], []] c) v)
    (c : Dev nD) : outAt m ρ c = v := by
  funext i
  unfold outAt
  rw [xstg_eq, h, Layout.blockN_apply]
  congr 1
  funext a
  apply Fin.ext
  have hy := yy_src c (halfOf i)
  have hb := block_row (srcDev c (halfOf i))
  have hk : (halfOf i).val = (i 0).val / 256 := rfl
  fin_cases a
  · show Layout.meshLin [2, 4, 4] (srcDev c (halfOf i)).val [1] * 512 + (i 0).val % 512 = (i 0).val
    rw [hb, hy, hk]; omega
  · show 0 * 512 + (i 1).val = (i 1).val
    omega

end Cert.GatherProof

end
-- ==== Proof.lean ====
/-
  The proof of `Cert.Claim`: the kernel's run (Proof/Run.lean, at any float values) read at `Bits` and at `Ideal`, its
  value (Proof/Value.lean), and the reference, which returns its argument.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Adequacy
public import Idealize.ShloMosaic.Init
public import Idealize.ShloMosaic.Lib.StableHlo.Run
public import Idealize.ShloMosaic.Lib.Quiescent

@[expose] public section

noncomputable section

namespace Cert.Proof

open Idealize.ShloMosaic Idealize.SL.Sem

/-- The two printings of the kernel have the same body table at machine values: it has one label. -/
theorem defs₀_eq : Cert.Kernel.defs₀ (F := Bits) = Cert.KernelIdeal.defs₀ := by
  unfold Cert.Kernel.defs₀ Cert.KernelIdeal.defs₀
  refine congrArg Defs.onTc ?_
  funext ℓ a
  match ℓ with
  | 0 => rfl

/-- And so the same table with the pipeline's labels added. -/
theorem defs_eq : Cert.Kernel.defs (F := Bits) = Cert.KernelIdeal.defs := by
  unfold Cert.Kernel.defs Cert.KernelIdeal.defs
  exact congrArg (Pipeline.defs (Cert.KernelIdeal.pcfgs (F := Bits))) defs₀_eq

/-- The kernel as compiled ends, its argument unchanged and every counter zero. -/
theorem frame_kernel : Cert.quiescent_Kernel := fun m ρ _ => by
  rw [defs_eq]
  exact (θ_run Cert.KernelIdeal.defs _ _).mono
    (fun _ h => ⟨fun c => (h.1 c 0).trans (GatherProof.finalA_x m ρ c), h.2⟩) (GatherProof.run_main (F := Bits) m ρ)

/-- The same of the kernel over exact values. -/
theorem frame_kernelIdeal : Cert.quiescent_KernelIdeal := fun m ρ _ =>
  (θ_run Cert.KernelIdeal.defs _ _).mono (fun _ h => ⟨fun c => (h.1 c 0).trans (GatherProof.finalA_x m ρ c), h.2⟩)
    (GatherProof.run_main (F := Ideal) m ρ)

namespace Ref

open Cert.ReferenceIdeal Idealize.ShloMosaic.StableHlo

theorem scopedRefs_eq : (Finset.univ.filter fun b : Ref sig .tc => b.isScoped) = ∅ := by decide
theorem scopedSems_eq : (Finset.univ.filter fun sm : SemLoc sig => sm.isScoped .tc) = ∅ := by decide

/-- The reference has no operation: every buffer ends as it began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD, r.2.mem ((c.tc : Thread nD τ).loc main_arg0) = m ((c.tc : Thread nD τ).loc main_arg0) :=
  (θ_run (defs (F := Ideal)) _ _).mono (fun _ h c => h c main_arg0)
    (run_seq scopedRefs_eq scopedSems_eq defs main (fun _ => []) (fun _ => rfl) (fun _ => trivial) m ρ)

end Ref

theorem frame_referenceIdeal : Cert.quiescent_ReferenceIdeal := fun m ρ _ =>
  (θ_run (Cert.ReferenceIdeal.defs (F := Ideal)) _ _).mono (fun r h => ⟨h, sem_eq_zero_of_no_sems (by decide) r.2⟩) (Ref.run m ρ)

/-- Every device's result is the reference's: the whole array. -/
theorem algebraic : Cert.algebraic_KernelIdeal_ReferenceIdeal := fun m ρ m' ρ' _ hm =>
  ⟨_, (θ_run Cert.KernelIdeal.defs _ _).mono
      (fun _ h c => ⟨(h.1 c 1).trans ((GatherProof.finalA_out m ρ c).trans (GatherProof.outAt_eq m ρ _ hm c)),
        (h.1 c 0).trans (GatherProof.finalA_x m ρ c)⟩)
      (GatherProof.run_main (F := Ideal) m ρ),
    (θ_run (Cert.ReferenceIdeal.defs (F := Ideal)) _ _).mono (fun _ h => ⟨h 0, h 0⟩) (Ref.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
